-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S4096x1024 : Shape := ⟨2, ![4096, 1024]⟩
abbrev S128x1024 : Shape := ⟨2, ![128, 1024]⟩
abbrev S128x4096 : Shape := ⟨2, ![128, 4096]⟩
abbrev S32 : Shape := ⟨1, ![32]⟩
abbrev S_ : Shape := ⟨0, ![]⟩
abbrev S128x128 : Shape := ⟨2, ![128, 128]⟩

abbrev nBuf : Space → Nat
  | .hbm => 5
  | .vmem => 7
  | .smem => 2
  | _ => 0

abbrev bufTy : (tb : Table) → Fin (tcTables nBuf tb) → BufTy
  | .hbm, ⟨0, _⟩ => ⟨S4096x128, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .fp8e4m3⟩
  | .local _ .vmem, ⟨1, _⟩ => ⟨S4096x1024, .fp8e5m2⟩
  | .local _ .vmem, ⟨2, _⟩ => ⟨S4096x1024, .fp8e5m2⟩
  | .local _ .vmem, ⟨3, _⟩ => ⟨S128x1024, .f32⟩
  | .local _ .vmem, ⟨4, _⟩ => ⟨S128x1024, .f32⟩
  | .local _ .vmem, ⟨5, _⟩ => ⟨S4096x128, .fp8e4m3⟩
  | .local _ .vmem, ⟨6, _⟩ => ⟨S128x4096, .fp8e4m3⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev barrier0 : Sem sig := 0

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v22 : BitVec 32 := Scalar.addi v2 c1_i32_12
  let c32_i32_13 : BitVec 32 := 32#32
  let v23 : BitVec 32 := Scalar.remsi v22 c32_i32_13
  let c1_i32_15 : BitVec 32 := 1#32
  let v24 : BitVec 32 := Scalar.muli v23 c1_i32_15
  let v25 : BitVec 32 := Scalar.addi c0_i32_16 v24
  v25.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v26 : BitVec 32 := Scalar.addi v2 c2_i32
  let c32_i32_17 : BitVec 32 := 32#32
  let v27 : BitVec 32 := Scalar.remsi v26 c32_i32_17
  let c1_i32_19 : BitVec 32 := 1#32
  let v28 : BitVec 32 := Scalar.muli v27 c1_i32_19
  let v29 : BitVec 32 := Scalar.addi c0_i32_20 v28
  v29.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_21 : BitVec 32 := 32#32
  let v31 : BitVec 32 := Scalar.remsi v30 c32_i32_21
  let c1_i32_23 : BitVec 32 := 1#32
  let v32 : BitVec 32 := Scalar.muli v31 c1_i32_23
  let v33 : BitVec 32 := Scalar.addi c0_i32_24 v32
  v33.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v34 : BitVec 32 := Scalar.addi v2 c4_i32
  let c32_i32_25 : BitVec 32 := 32#32
  let v35 : BitVec 32 := Scalar.remsi v34 c32_i32_25
  let c1_i32_27 : BitVec 32 := 1#32
  let v36 : BitVec 32 := Scalar.muli v35 c1_i32_27
  let v37 : BitVec 32 := Scalar.addi c0_i32_28 v36
  v37.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v38 : BitVec 32 := Scalar.addi v2 c5_i32
  let c32_i32_29 : BitVec 32 := 32#32
  let v39 : BitVec 32 := Scalar.remsi v38 c32_i32_29
  let c1_i32_31 : BitVec 32 := 1#32
  let v40 : BitVec 32 := Scalar.muli v39 c1_i32_31
  let v41 : BitVec 32 := Scalar.addi c0_i32_32 v40
  v41.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v42 : BitVec 32 := Scalar.addi v2 c6_i32
  let c32_i32_33 : BitVec 32 := 32#32
  let v43 : BitVec 32 := Scalar.remsi v42 c32_i32_33
  let c1_i32_35 : BitVec 32 := 1#32
  let v44 : BitVec 32 := Scalar.muli v43 c1_i32_35
  let v45 : BitVec 32 := Scalar.addi c0_i32_36 v44
  v45.toNat
def k0_dev7 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v46 : BitVec 32 := Scalar.addi v2 c7_i32
  let c32_i32_37 : BitVec 32 := 32#32
  let v47 : BitVec 32 := Scalar.remsi v46 c32_i32_37
  let c1_i32_39 : BitVec 32 := 1#32
  let v48 : BitVec 32 := Scalar.muli v47 c1_i32_39
  let v49 : BitVec 32 := Scalar.addi c0_i32_40 v48
  v49.toNat
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v50 : BitVec 32 := Scalar.addi v2 c8_i32
  let c32_i32_41 : BitVec 32 := 32#32
  let v51 : BitVec 32 := Scalar.remsi v50 c32_i32_41
  let c1_i32_43 : BitVec 32 := 1#32
  let v52 : BitVec 32 := Scalar.muli v51 c1_i32_43
  let v53 : BitVec 32 := Scalar.addi c0_i32_44 v52
  v53.toNat
def k0_dev9 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v54 : BitVec 32 := Scalar.addi v2 c9_i32
  let c32_i32_45 : BitVec 32 := 32#32
  let v55 : BitVec 32 := Scalar.remsi v54 c32_i32_45
  let c1_i32_47 : BitVec 32 := 1#32
  let v56 : BitVec 32 := Scalar.muli v55 c1_i32_47
  let v57 : BitVec 32 := Scalar.addi c0_i32_48 v56
  v57.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v58 : BitVec 32 := Scalar.addi v2 c10_i32
  let c32_i32_49 : BitVec 32 := 32#32
  let v59 : BitVec 32 := Scalar.remsi v58 c32_i32_49
  let c1_i32_51 : BitVec 32 := 1#32
  let v60 : BitVec 32 := Scalar.muli v59 c1_i32_51
  let v61 : BitVec 32 := Scalar.addi c0_i32_52 v60
  v61.toNat
def k0_dev11 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v62 : BitVec 32 := Scalar.addi v2 c11_i32
  let c32_i32_53 : BitVec 32 := 32#32
  let v63 : BitVec 32 := Scalar.remsi v62 c32_i32_53
  let c1_i32_55 : BitVec 32 := 1#32
  let v64 : BitVec 32 := Scalar.muli v63 c1_i32_55
  let v65 : BitVec 32 := Scalar.addi c0_i32_56 v64
  v65.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v66 : BitVec 32 := Scalar.addi v2 c12_i32
  let c32_i32_57 : BitVec 32 := 32#32
  let v67 : BitVec 32 := Scalar.remsi v66 c32_i32_57
  let c1_i32_59 : BitVec 32 := 1#32
  let v68 : BitVec 32 := Scalar.muli v67 c1_i32_59
  let v69 : BitVec 32 := Scalar.addi c0_i32_60 v68
  v69.toNat
def k0_dev13 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v70 : BitVec 32 := Scalar.addi v2 c13_i32
  let c32_i32_61 : BitVec 32 := 32#32
  let v71 : BitVec 32 := Scalar.remsi v70 c32_i32_61
  let c1_i32_63 : BitVec 32 := 1#32
  let v72 : BitVec 32 := Scalar.muli v71 c1_i32_63
  let v73 : BitVec 32 := Scalar.addi c0_i32_64 v72
  v73.toNat
def k0_dev14 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v74 : BitVec 32 := Scalar.addi v2 c14_i32
  let c32_i32_65 : BitVec 32 := 32#32
  let v75 : BitVec 32 := Scalar.remsi v74 c32_i32_65
  let c1_i32_67 : BitVec 32 := 1#32
  let v76 : BitVec 32 := Scalar.muli v75 c1_i32_67
  let v77 : BitVec 32 := Scalar.addi c0_i32_68 v76
  v77.toNat
def k0_dev15 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v78 : BitVec 32 := Scalar.addi v2 c15_i32
  let c32_i32_69 : BitVec 32 := 32#32
  let v79 : BitVec 32 := Scalar.remsi v78 c32_i32_69
  let c1_i32_71 : BitVec 32 := 1#32
  let v80 : BitVec 32 := Scalar.muli v79 c1_i32_71
  let v81 : BitVec 32 := Scalar.addi c0_i32_72 v80
  v81.toNat
def k0_dev16 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v82 : BitVec 32 := Scalar.addi v2 c16_i32
  let c32_i32_73 : BitVec 32 := 32#32
  let v83 : BitVec 32 := Scalar.remsi v82 c32_i32_73
  let c1_i32_75 : BitVec 32 := 1#32
  let v84 : BitVec 32 := Scalar.muli v83 c1_i32_75
  let v85 : BitVec 32 := Scalar.addi c0_i32_76 v84
  v85.toNat
def k0_dev17 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v86 : BitVec 32 := Scalar.addi v2 c17_i32
  let c32_i32_77 : BitVec 32 := 32#32
  let v87 : BitVec 32 := Scalar.remsi v86 c32_i32_77
  let c1_i32_79 : BitVec 32 := 1#32
  let v88 : BitVec 32 := Scalar.muli v87 c1_i32_79
  let v89 : BitVec 32 := Scalar.addi c0_i32_80 v88
  v89.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v90 : BitVec 32 := Scalar.addi v2 c18_i32
  let c32_i32_81 : BitVec 32 := 32#32
  let v91 : BitVec 32 := Scalar.remsi v90 c32_i32_81
  let c1_i32_83 : BitVec 32 := 1#32
  let v92 : BitVec 32 := Scalar.muli v91 c1_i32_83
  let v93 : BitVec 32 := Scalar.addi c0_i32_84 v92
  v93.toNat
def k0_dev19 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v94 : BitVec 32 := Scalar.addi v2 c19_i32
  let c32_i32_85 : BitVec 32 := 32#32
  let v95 : BitVec 32 := Scalar.remsi v94 c32_i32_85
  let c1_i32_87 : BitVec 32 := 1#32
  let v96 : BitVec 32 := Scalar.muli v95 c1_i32_87
  let v97 : BitVec 32 := Scalar.addi c0_i32_88 v96
  v97.toNat
def k0_dev20 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v98 : BitVec 32 := Scalar.addi v2 c20_i32
  let c32_i32_89 : BitVec 32 := 32#32
  let v99 : BitVec 32 := Scalar.remsi v98 c32_i32_89
  let c1_i32_91 : BitVec 32 := 1#32
  let v100 : BitVec 32 := Scalar.muli v99 c1_i32_91
  let v101 : BitVec 32 := Scalar.addi c0_i32_92 v100
  v101.toNat
def k0_dev21 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v102 : BitVec 32 := Scalar.addi v2 c21_i32
  let c32_i32_93 : BitVec 32 := 32#32
  let v103 : BitVec 32 := Scalar.remsi v102 c32_i32_93
  let c1_i32_95 : BitVec 32 := 1#32
  let v104 : BitVec 32 := Scalar.muli v103 c1_i32_95
  let v105 : BitVec 32 := Scalar.addi c0_i32_96 v104
  v105.toNat
def k0_dev22 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v106 : BitVec 32 := Scalar.addi v2 c22_i32
  let c32_i32_97 : BitVec 32 := 32#32
  let v107 : BitVec 32 := Scalar.remsi v106 c32_i32_97
  let c1_i32_99 : BitVec 32 := 1#32
  let v108 : BitVec 32 := Scalar.muli v107 c1_i32_99
  let v109 : BitVec 32 := Scalar.addi c0_i32_100 v108
  v109.toNat
def k0_dev23 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v110 : BitVec 32 := Scalar.addi v2 c23_i32
  let c32_i32_101 : BitVec 32 := 32#32
  let v111 : BitVec 32 := Scalar.remsi v110 c32_i32_101
  let c1_i32_103 : BitVec 32 := 1#32
  let v112 : BitVec 32 := Scalar.muli v111 c1_i32_103
  let v113 : BitVec 32 := Scalar.addi c0_i32_104 v112
  v113.toNat
def k0_dev24 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v114 : BitVec 32 := Scalar.addi v2 c24_i32
  let c32_i32_105 : BitVec 32 := 32#32
  let v115 : BitVec 32 := Scalar.remsi v114 c32_i32_105
  let c1_i32_107 : BitVec 32 := 1#32
  let v116 : BitVec 32 := Scalar.muli v115 c1_i32_107
  let v117 : BitVec 32 := Scalar.addi c0_i32_108 v116
  v117.toNat
def k0_dev25 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v118 : BitVec 32 := Scalar.addi v2 c25_i32
  let c32_i32_109 : BitVec 32 := 32#32
  let v119 : BitVec 32 := Scalar.remsi v118 c32_i32_109
  let c1_i32_111 : BitVec 32 := 1#32
  let v120 : BitVec 32 := Scalar.muli v119 c1_i32_111
  let v121 : BitVec 32 := Scalar.addi c0_i32_112 v120
  v121.toNat
def k0_dev26 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v122 : BitVec 32 := Scalar.addi v2 c26_i32
  let c32_i32_113 : BitVec 32 := 32#32
  let v123 : BitVec 32 := Scalar.remsi v122 c32_i32_113
  let c1_i32_115 : BitVec 32 := 1#32
  let v124 : BitVec 32 := Scalar.muli v123 c1_i32_115
  let v125 : BitVec 32 := Scalar.addi c0_i32_116 v124
  v125.toNat
def k0_dev27 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v126 : BitVec 32 := Scalar.addi v2 c27_i32
  let c32_i32_117 : BitVec 32 := 32#32
  let v127 : BitVec 32 := Scalar.remsi v126 c32_i32_117
  let c1_i32_119 : BitVec 32 := 1#32
  let v128 : BitVec 32 := Scalar.muli v127 c1_i32_119
  let v129 : BitVec 32 := Scalar.addi c0_i32_120 v128
  v129.toNat
def k0_dev28 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v130 : BitVec 32 := Scalar.addi v2 c28_i32
  let c32_i32_121 : BitVec 32 := 32#32
  let v131 : BitVec 32 := Scalar.remsi v130 c32_i32_121
  let c1_i32_123 : BitVec 32 := 1#32
  let v132 : BitVec 32 := Scalar.muli v131 c1_i32_123
  let v133 : BitVec 32 := Scalar.addi c0_i32_124 v132
  v133.toNat
def k0_dev29 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v134 : BitVec 32 := Scalar.addi v2 c29_i32
  let c32_i32_125 : BitVec 32 := 32#32
  let v135 : BitVec 32 := Scalar.remsi v134 c32_i32_125
  let c1_i32_127 : BitVec 32 := 1#32
  let v136 : BitVec 32 := Scalar.muli v135 c1_i32_127
  let v137 : BitVec 32 := Scalar.addi c0_i32_128 v136
  v137.toNat
def k0_dev30 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v138 : BitVec 32 := Scalar.addi v2 c30_i32
  let c32_i32_129 : BitVec 32 := 32#32
  let v139 : BitVec 32 := Scalar.remsi v138 c32_i32_129
  let c1_i32_131 : BitVec 32 := 1#32
  let v140 : BitVec 32 := Scalar.muli v139 c1_i32_131
  let v141 : BitVec 32 := Scalar.addi c0_i32_132 v140
  v141.toNat
def k0_dev31 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v142 : BitVec 32 := Scalar.addi v2 c31_i32
  let c32_i32_133 : BitVec 32 := 32#32
  let v143 : BitVec 32 := Scalar.remsi v142 c32_i32_133
  let c1_i32_135 : BitVec 32 := 1#32
  let v144 : BitVec 32 := Scalar.muli v143 c1_i32_135
  let v145 : BitVec 32 := Scalar.addi c0_i32_136 v144
  v145.toNat
def k0_off1 (d0 : Dev nD) (c1_i32_138 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v146 : BitVec 32 := Scalar.addi v2 c1_i32_138
  let c32_i32_139 : BitVec 32 := 32#32
  let v147 : BitVec 32 := Scalar.remsi v146 c32_i32_139
  ![v147.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_140 : BitVec 32 := 128#32
  let v149 : BitVec 32 := Scalar.muli v2 c128_i32_140
  ![0, v149.toNat]
def k0_off4 (d0 : Dev nD) (c1_i32_138 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v146 : BitVec 32 := Scalar.addi v2 c1_i32_138
  let c32_i32_139 : BitVec 32 := 32#32
  let v147 : BitVec 32 := Scalar.remsi v146 c32_i32_139
  let c128_i32 : BitVec 32 := 128#32
  let v148 : BitVec 32 := Scalar.muli v147 c128_i32
  let c0_i32_144 : BitVec 32 := 0#32
  ![v148.toNat, 0]
def k0_dev32 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_138 : BitVec 32 := 1#32
  let v146 : BitVec 32 := Scalar.addi v2 c1_i32_138
  let c32_i32_139 : BitVec 32 := 32#32
  let v147 : BitVec 32 := Scalar.remsi v146 c32_i32_139
  let c1_i32_141 : BitVec 32 := 1#32
  let v150 : BitVec 32 := Scalar.muli v147 c1_i32_141
  let v151 : BitVec 32 := Scalar.addi c0_i32_142 v150
  v151.toNat
def k0_dev33 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_145 : BitVec 32 := 2#32
  let v158 : BitVec 32 := Scalar.addi v2 c2_i32_145
  let c32_i32_146 : BitVec 32 := 32#32
  let v159 : BitVec 32 := Scalar.remsi v158 c32_i32_146
  let c1_i32_149 : BitVec 32 := 1#32
  let v162 : BitVec 32 := Scalar.muli v159 c1_i32_149
  let v163 : BitVec 32 := Scalar.addi c0_i32_150 v162
  v163.toNat
def k0_dev34 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_153 : BitVec 32 := 3#32
  let v170 : BitVec 32 := Scalar.addi v2 c3_i32_153
  let c32_i32_154 : BitVec 32 := 32#32
  let v171 : BitVec 32 := Scalar.remsi v170 c32_i32_154
  let c1_i32_157 : BitVec 32 := 1#32
  let v174 : BitVec 32 := Scalar.muli v171 c1_i32_157
  let v175 : BitVec 32 := Scalar.addi c0_i32_158 v174
  v175.toNat
def k0_dev35 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v182 : BitVec 32 := Scalar.addi v2 c4_i32_161
  let c32_i32_162 : BitVec 32 := 32#32
  let v183 : BitVec 32 := Scalar.remsi v182 c32_i32_162
  let c1_i32_165 : BitVec 32 := 1#32
  let v186 : BitVec 32 := Scalar.muli v183 c1_i32_165
  let v187 : BitVec 32 := Scalar.addi c0_i32_166 v186
  v187.toNat
def k0_dev36 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_169 : BitVec 32 := 5#32
  let v194 : BitVec 32 := Scalar.addi v2 c5_i32_169
  let c32_i32_170 : BitVec 32 := 32#32
  let v195 : BitVec 32 := Scalar.remsi v194 c32_i32_170
  let c1_i32_173 : BitVec 32 := 1#32
  let v198 : BitVec 32 := Scalar.muli v195 c1_i32_173
  let v199 : BitVec 32 := Scalar.addi c0_i32_174 v198
  v199.toNat
def k0_dev37 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_177 : BitVec 32 := 6#32
  let v206 : BitVec 32 := Scalar.addi v2 c6_i32_177
  let c32_i32_178 : BitVec 32 := 32#32
  let v207 : BitVec 32 := Scalar.remsi v206 c32_i32_178
  let c1_i32_181 : BitVec 32 := 1#32
  let v210 : BitVec 32 := Scalar.muli v207 c1_i32_181
  let v211 : BitVec 32 := Scalar.addi c0_i32_182 v210
  v211.toNat
def k0_dev38 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_185 : BitVec 32 := 7#32
  let v218 : BitVec 32 := Scalar.addi v2 c7_i32_185
  let c32_i32_186 : BitVec 32 := 32#32
  let v219 : BitVec 32 := Scalar.remsi v218 c32_i32_186
  let c1_i32_189 : BitVec 32 := 1#32
  let v222 : BitVec 32 := Scalar.muli v219 c1_i32_189
  let v223 : BitVec 32 := Scalar.addi c0_i32_190 v222
  v223.toNat
def k0_dev39 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_193 : BitVec 32 := 8#32
  let v230 : BitVec 32 := Scalar.addi v2 c8_i32_193
  let c32_i32_194 : BitVec 32 := 32#32
  let v231 : BitVec 32 := Scalar.remsi v230 c32_i32_194
  let c1_i32_197 : BitVec 32 := 1#32
  let v234 : BitVec 32 := Scalar.muli v231 c1_i32_197
  let v235 : BitVec 32 := Scalar.addi c0_i32_198 v234
  v235.toNat
def k0_dev40 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_201 : BitVec 32 := 9#32
  let v242 : BitVec 32 := Scalar.addi v2 c9_i32_201
  let c32_i32_202 : BitVec 32 := 32#32
  let v243 : BitVec 32 := Scalar.remsi v242 c32_i32_202
  let c1_i32_205 : BitVec 32 := 1#32
  let v246 : BitVec 32 := Scalar.muli v243 c1_i32_205
  let v247 : BitVec 32 := Scalar.addi c0_i32_206 v246
  v247.toNat
def k0_dev41 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_209 : BitVec 32 := 10#32
  let v254 : BitVec 32 := Scalar.addi v2 c10_i32_209
  let c32_i32_210 : BitVec 32 := 32#32
  let v255 : BitVec 32 := Scalar.remsi v254 c32_i32_210
  let c1_i32_213 : BitVec 32 := 1#32
  let v258 : BitVec 32 := Scalar.muli v255 c1_i32_213
  let v259 : BitVec 32 := Scalar.addi c0_i32_214 v258
  v259.toNat
def k0_dev42 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_217 : BitVec 32 := 11#32
  let v266 : BitVec 32 := Scalar.addi v2 c11_i32_217
  let c32_i32_218 : BitVec 32 := 32#32
  let v267 : BitVec 32 := Scalar.remsi v266 c32_i32_218
  let c1_i32_221 : BitVec 32 := 1#32
  let v270 : BitVec 32 := Scalar.muli v267 c1_i32_221
  let v271 : BitVec 32 := Scalar.addi c0_i32_222 v270
  v271.toNat
def k0_dev43 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_225 : BitVec 32 := 12#32
  let v278 : BitVec 32 := Scalar.addi v2 c12_i32_225
  let c32_i32_226 : BitVec 32 := 32#32
  let v279 : BitVec 32 := Scalar.remsi v278 c32_i32_226
  let c1_i32_229 : BitVec 32 := 1#32
  let v282 : BitVec 32 := Scalar.muli v279 c1_i32_229
  let v283 : BitVec 32 := Scalar.addi c0_i32_230 v282
  v283.toNat
def k0_dev44 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_233 : BitVec 32 := 13#32
  let v290 : BitVec 32 := Scalar.addi v2 c13_i32_233
  let c32_i32_234 : BitVec 32 := 32#32
  let v291 : BitVec 32 := Scalar.remsi v290 c32_i32_234
  let c1_i32_237 : BitVec 32 := 1#32
  let v294 : BitVec 32 := Scalar.muli v291 c1_i32_237
  let v295 : BitVec 32 := Scalar.addi c0_i32_238 v294
  v295.toNat
def k0_dev45 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_241 : BitVec 32 := 14#32
  let v302 : BitVec 32 := Scalar.addi v2 c14_i32_241
  let c32_i32_242 : BitVec 32 := 32#32
  let v303 : BitVec 32 := Scalar.remsi v302 c32_i32_242
  let c1_i32_245 : BitVec 32 := 1#32
  let v306 : BitVec 32 := Scalar.muli v303 c1_i32_245
  let v307 : BitVec 32 := Scalar.addi c0_i32_246 v306
  v307.toNat
def k0_dev46 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_249 : BitVec 32 := 15#32
  let v314 : BitVec 32 := Scalar.addi v2 c15_i32_249
  let c32_i32_250 : BitVec 32 := 32#32
  let v315 : BitVec 32 := Scalar.remsi v314 c32_i32_250
  let c1_i32_253 : BitVec 32 := 1#32
  let v318 : BitVec 32 := Scalar.muli v315 c1_i32_253
  let v319 : BitVec 32 := Scalar.addi c0_i32_254 v318
  v319.toNat
def k0_dev47 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_257 : BitVec 32 := 16#32
  let v326 : BitVec 32 := Scalar.addi v2 c16_i32_257
  let c32_i32_258 : BitVec 32 := 32#32
  let v327 : BitVec 32 := Scalar.remsi v326 c32_i32_258
  let c1_i32_261 : BitVec 32 := 1#32
  let v330 : BitVec 32 := Scalar.muli v327 c1_i32_261
  let v331 : BitVec 32 := Scalar.addi c0_i32_262 v330
  v331.toNat
def k0_dev48 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_265 : BitVec 32 := 17#32
  let v338 : BitVec 32 := Scalar.addi v2 c17_i32_265
  let c32_i32_266 : BitVec 32 := 32#32
  let v339 : BitVec 32 := Scalar.remsi v338 c32_i32_266
  let c1_i32_269 : BitVec 32 := 1#32
  let v342 : BitVec 32 := Scalar.muli v339 c1_i32_269
  let v343 : BitVec 32 := Scalar.addi c0_i32_270 v342
  v343.toNat
def k0_dev49 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_273 : BitVec 32 := 18#32
  let v350 : BitVec 32 := Scalar.addi v2 c18_i32_273
  let c32_i32_274 : BitVec 32 := 32#32
  let v351 : BitVec 32 := Scalar.remsi v350 c32_i32_274
  let c1_i32_277 : BitVec 32 := 1#32
  let v354 : BitVec 32 := Scalar.muli v351 c1_i32_277
  let v355 : BitVec 32 := Scalar.addi c0_i32_278 v354
  v355.toNat
def k0_dev50 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_281 : BitVec 32 := 19#32
  let v362 : BitVec 32 := Scalar.addi v2 c19_i32_281
  let c32_i32_282 : BitVec 32 := 32#32
  let v363 : BitVec 32 := Scalar.remsi v362 c32_i32_282
  let c1_i32_285 : BitVec 32 := 1#32
  let v366 : BitVec 32 := Scalar.muli v363 c1_i32_285
  let v367 : BitVec 32 := Scalar.addi c0_i32_286 v366
  v367.toNat
def k0_dev51 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_289 : BitVec 32 := 20#32
  let v374 : BitVec 32 := Scalar.addi v2 c20_i32_289
  let c32_i32_290 : BitVec 32 := 32#32
  let v375 : BitVec 32 := Scalar.remsi v374 c32_i32_290
  let c1_i32_293 : BitVec 32 := 1#32
  let v378 : BitVec 32 := Scalar.muli v375 c1_i32_293
  let v379 : BitVec 32 := Scalar.addi c0_i32_294 v378
  v379.toNat
def k0_dev52 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_297 : BitVec 32 := 21#32
  let v386 : BitVec 32 := Scalar.addi v2 c21_i32_297
  let c32_i32_298 : BitVec 32 := 32#32
  let v387 : BitVec 32 := Scalar.remsi v386 c32_i32_298
  let c1_i32_301 : BitVec 32 := 1#32
  let v390 : BitVec 32 := Scalar.muli v387 c1_i32_301
  let v391 : BitVec 32 := Scalar.addi c0_i32_302 v390
  v391.toNat
def k0_dev53 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_305 : BitVec 32 := 22#32
  let v398 : BitVec 32 := Scalar.addi v2 c22_i32_305
  let c32_i32_306 : BitVec 32 := 32#32
  let v399 : BitVec 32 := Scalar.remsi v398 c32_i32_306
  let c1_i32_309 : BitVec 32 := 1#32
  let v402 : BitVec 32 := Scalar.muli v399 c1_i32_309
  let v403 : BitVec 32 := Scalar.addi c0_i32_310 v402
  v403.toNat
def k0_dev54 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_313 : BitVec 32 := 23#32
  let v410 : BitVec 32 := Scalar.addi v2 c23_i32_313
  let c32_i32_314 : BitVec 32 := 32#32
  let v411 : BitVec 32 := Scalar.remsi v410 c32_i32_314
  let c1_i32_317 : BitVec 32 := 1#32
  let v414 : BitVec 32 := Scalar.muli v411 c1_i32_317
  let v415 : BitVec 32 := Scalar.addi c0_i32_318 v414
  v415.toNat
def k0_dev55 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_321 : BitVec 32 := 24#32
  let v422 : BitVec 32 := Scalar.addi v2 c24_i32_321
  let c32_i32_322 : BitVec 32 := 32#32
  let v423 : BitVec 32 := Scalar.remsi v422 c32_i32_322
  let c1_i32_325 : BitVec 32 := 1#32
  let v426 : BitVec 32 := Scalar.muli v423 c1_i32_325
  let v427 : BitVec 32 := Scalar.addi c0_i32_326 v426
  v427.toNat
def k0_dev56 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_329 : BitVec 32 := 25#32
  let v434 : BitVec 32 := Scalar.addi v2 c25_i32_329
  let c32_i32_330 : BitVec 32 := 32#32
  let v435 : BitVec 32 := Scalar.remsi v434 c32_i32_330
  let c1_i32_333 : BitVec 32 := 1#32
  let v438 : BitVec 32 := Scalar.muli v435 c1_i32_333
  let v439 : BitVec 32 := Scalar.addi c0_i32_334 v438
  v439.toNat
def k0_dev57 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_337 : BitVec 32 := 26#32
  let v446 : BitVec 32 := Scalar.addi v2 c26_i32_337
  let c32_i32_338 : BitVec 32 := 32#32
  let v447 : BitVec 32 := Scalar.remsi v446 c32_i32_338
  let c1_i32_341 : BitVec 32 := 1#32
  let v450 : BitVec 32 := Scalar.muli v447 c1_i32_341
  let v451 : BitVec 32 := Scalar.addi c0_i32_342 v450
  v451.toNat
def k0_dev58 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_345 : BitVec 32 := 27#32
  let v458 : BitVec 32 := Scalar.addi v2 c27_i32_345
  let c32_i32_346 : BitVec 32 := 32#32
  let v459 : BitVec 32 := Scalar.remsi v458 c32_i32_346
  let c1_i32_349 : BitVec 32 := 1#32
  let v462 : BitVec 32 := Scalar.muli v459 c1_i32_349
  let v463 : BitVec 32 := Scalar.addi c0_i32_350 v462
  v463.toNat
def k0_dev59 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_353 : BitVec 32 := 28#32
  let v470 : BitVec 32 := Scalar.addi v2 c28_i32_353
  let c32_i32_354 : BitVec 32 := 32#32
  let v471 : BitVec 32 := Scalar.remsi v470 c32_i32_354
  let c1_i32_357 : BitVec 32 := 1#32
  let v474 : BitVec 32 := Scalar.muli v471 c1_i32_357
  let v475 : BitVec 32 := Scalar.addi c0_i32_358 v474
  v475.toNat
def k0_dev60 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_361 : BitVec 32 := 29#32
  let v482 : BitVec 32 := Scalar.addi v2 c29_i32_361
  let c32_i32_362 : BitVec 32 := 32#32
  let v483 : BitVec 32 := Scalar.remsi v482 c32_i32_362
  let c1_i32_365 : BitVec 32 := 1#32
  let v486 : BitVec 32 := Scalar.muli v483 c1_i32_365
  let v487 : BitVec 32 := Scalar.addi c0_i32_366 v486
  v487.toNat
def k0_dev61 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_369 : BitVec 32 := 30#32
  let v494 : BitVec 32 := Scalar.addi v2 c30_i32_369
  let c32_i32_370 : BitVec 32 := 32#32
  let v495 : BitVec 32 := Scalar.remsi v494 c32_i32_370
  let c1_i32_373 : BitVec 32 := 1#32
  let v498 : BitVec 32 := Scalar.muli v495 c1_i32_373
  let v499 : BitVec 32 := Scalar.addi c0_i32_374 v498
  v499.toNat
def k0_dev62 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_377 : BitVec 32 := 31#32
  let v506 : BitVec 32 := Scalar.addi v2 c31_i32_377
  let c32_i32_378 : BitVec 32 := 32#32
  let v507 : BitVec 32 := Scalar.remsi v506 c32_i32_378
  let c1_i32_381 : BitVec 32 := 1#32
  let v510 : BitVec 32 := Scalar.muli v507 c1_i32_381
  let v511 : BitVec 32 := Scalar.addi c0_i32_382 v510
  v511.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_385 : BitVec 32 := 128#32
  let v518 : BitVec 32 := Scalar.muli v2 c128_i32_385
  let v519 : Index := Scalar.indexCast v518
  let c0_386 : Index := 0#32
  ![v519.toNat, 0]
def k0_off6 (d0 : Dev nD) : Fin 2 → Nat :=
  let c0_388 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_387 : BitVec 32 := 128#32
  let v521 : BitVec 32 := Scalar.muli v2 c128_i32_387
  let v522 : Index := Scalar.indexCast v521
  ![0, v522.toNat]
def k0_off7 (d0 : Dev nD) (c1_i32_389 : BitVec 32) : Fin 2 → Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v526 : BitVec 32 := Scalar.addi v2 c1_i32_389
  let c32_i32_390 : BitVec 32 := 32#32
  let v527 : BitVec 32 := Scalar.remsi v526 c32_i32_390
  let c128_i32_391 : BitVec 32 := 128#32
  let v528 : BitVec 32 := Scalar.muli v527 c128_i32_391
  ![0, v528.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/-
# The body of the kernel as five rows of steps

The kernel writes its exchange out call by call: thirty-one signals, one wait, thirty-one remote copies, a local
copy, thirty-one waits for what lands and thirty-one waits for what was sent. Here each row is one step at a
symbolic hop `r : Fin 31`, repeated, and the body is shown to be those rows in order followed by the product.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]

/-- A program of one core that returns nothing. -/
abbrev CoreProg (F : FTy → Type) : Type 1 := Prog (TpuEff nD τ sig (Elt F) Λ₀ .tc) PUnit

/-- The first `n` steps of a row, in order, before `k`. -/
def row : (n : ℕ) → (Fin n → CoreProg F → CoreProg F) → CoreProg F → CoreProg F
  | 0, _, k => k
  | n + 1, P, k => P 0 (row n (fun r => P r.succ) k)

/-- The cast of `x`, and the rows gathered from every device. -/
abbrev x8M : Memref sig .tc .vmem S4096x128 .fp8e4m3 := Memref.whole cc0_scratch0
abbrev xgM : Memref sig .tc .vmem S128x4096 .fp8e4m3 := Memref.whole cc0_scratch1

/-- The barrier semaphore of the collective. -/
abbrev barS : Sem sig := (SemArray.scalar (sig.barrier 0 rfl) : Sems sig S_).sem

/-- The number of the hop, as the kernel counts it: from one. -/
abbrev hopW (r : Fin 31) : BitVec 32 := BitVec.ofNat 32 (1 + r.val)

/-- The device a hop of `w` addresses, as the kernel computes it from its own number. -/
def hopNat (c : Dev nD) (w : BitVec 32) : ℕ :=
  (Scalar.addi 0#32 (Scalar.muli (Scalar.remsi (Scalar.addi (Scalar.remsi (Scalar.divsi (Dev.word c) 1#32) 32#32) w) 32#32) 1#32)).toNat

theorem hopNat_eq : ∀ (c : Dev nD) (r : Fin 31), hopNat c (hopW r) = (c.val + r.val + 1) % 32 := by decide +kernel
theorem hopNat_lt (c : Dev nD) (r : Fin 31) : hopNat c (hopW r) < nD := by
  rw [hopNat_eq]; exact Nat.mod_lt _ (by decide)

section Rows

variable (i : grid0.Coords) (c : Dev nD) (h : k0_cond1 i = 1#1)

/-- The block of `x` for the device a hop away: the rows of `x` that device multiplies. -/
abbrev outBlk (r : Fin 31) : Memref sig .tc .vmem S128x128 .fp8e4m3 :=
  x8M.slice (Rect.unit (s := S4096x128) (k0_off4 c (hopW r)) S128x128.size (k0_off4_inb i c h r)) (fun _ => rfl)
/-- The strip of the gathered rows that carries this device's columns: where its copies land on the others. -/
abbrev ownStrip : Memref sig .tc .vmem S128x128 .fp8e4m3 :=
  xgM.slice (Rect.unit (s := S128x4096) (k0_off3 c) S128x128.size (k0_off3_inb i c h)) (fun _ => rfl)
/-- The strip of the gathered rows that the device a hop away fills. -/
abbrev inStrip (r : Fin 31) : Memref sig .tc .vmem S128x128 .fp8e4m3 :=
  xgM.slice (Rect.unit (s := S128x4096) (k0_off7 c (hopW r)) S128x128.size (k0_off7_inb i c h r)) (fun _ => rfl)
/-- The semaphore a copy to the device a hop away is counted on here; -/
abbrev sentSem (r : Fin 31) : DmaSem sig :=
  ((cc0_scratch2.slice (Rect.unit (s := S32) (k0_off1 c (hopW r)) S1.size (k0_off1_inb i c h r)) : DmaSems sig S1).squeeze S_ squeezes_S1_S_).sem
/-- the semaphore it is counted on there; -/
abbrev landSem : DmaSem sig :=
  ((cc0_scratch3.slice (Rect.unit (s := S32) (k0_off2 c) S1.size (k0_off2_inb i c h)) : DmaSems sig S1).squeeze S_ squeezes_S1_S_).sem
/-- and the semaphore the copy from that device is counted on here. -/
abbrev gotSem (r : Fin 31) : DmaSem sig :=
  ((cc0_scratch3.slice (Rect.unit (s := S32) (k0_off1 c (hopW r)) S1.size (k0_off1_inb i c h r)) : DmaSems sig S1).squeeze S_ squeezes_S1_S_).sem

/-- One signal of the row that announces this device. -/
def sigStep (r : Fin 31) (k : CoreProg F) : CoreProg F :=
  .op (.semSignal ((⟨hopNat c (hopW r), hopNat_lt c r⟩ : Dev nD), .tc) barS (1#32).toInt) fun _ => k

/-- One remote copy. -/
def sendStep (r : Fin 31) (k : CoreProg F) : CoreProg F :=
  .op (.enqueueDma (outBlk i c h r) (.remote (Dev.tc (⟨hopNat c (hopW r), hopNat_lt c r⟩ : Dev nD)) (ownStrip i c h) (.dma (sentSem i c h r))) (.dma (landSem i c h))
    ((Memref.isWhole_whole cc0_scratch0).wordExact_slice rfl _ (k0_off4_wordsfp8e4m3 i c h r))
    ((Memref.isWhole_whole cc0_scratch1).wordExact_slice rfl _ (k0_off3_wordsfp8e4m3 i c h)) ⟨⟨rfl, Or.inl rfl⟩, trivial⟩) fun _ => k

/-- One wait for what lands. -/
def gotStep (r : Fin 31) (k : CoreProg F) : CoreProg F :=
  .op (.waitDma2 (gotSem i c h r)
    (x8M.slice (Rect.unit (s := S4096x128) ![0, 0] S128x128.size inb_S4096x128_S128x128_0_0) (fun _ => rfl)) (inStrip i c h r)
    ((Memref.isWhole_whole cc0_scratch0).wordExact_slice rfl _ wordsfp8e4m3_S4096x128_S128x128_0_0)
    ((Memref.isWhole_whole cc0_scratch1).wordExact_slice rfl _ (k0_off7_wordsfp8e4m3 i c h r))) fun _ => k

/-- One wait for what was sent. -/
def sentStep (r : Fin 31) (k : CoreProg F) : CoreProg F :=
  .op (.waitDma2 (sentSem i c h r) (ownStrip i c h) (outBlk i c h r)
    ((Memref.isWhole_whole cc0_scratch1).wordExact_slice rfl _ (k0_off3_wordsfp8e4m3 i c h))
    ((Memref.isWhole_whole cc0_scratch0).wordExact_slice rfl _ (k0_off4_wordsfp8e4m3 i c h r))) fun _ => k

/-- The whole of `x` into its scratch, ahead of the exchange. -/
def castStep (xW : Memref sig .tc .vmem S4096x128 .fp8e4m3) (k : CoreProg F) : CoreProg F :=
  .op (.load xW (Rect.unit (s := S4096x128) ![0, 0] S4096x128.size inb_S4096x128_S4096x128_0_0).toLoadRect (View.loadsAt_vmem h_S4096x128)) fun v =>
  .op (.load x8M (Rect.unit (s := S4096x128) ![0, 0] S4096x128.size inb_S4096x128_S4096x128_0_0).toLoadRect (View.loadsAt_vmem h_S4096x128)) fun _ =>
  .op (.store x8M (Rect.unit (s := S4096x128) ![0, 0] S4096x128.size inb_S4096x128_S4096x128_0_0) (k0_pay2 v) Finset.univ
    (View.stores_vmem h_S4096x128 ((Memref.isWhole_whole cc0_scratch0).storeExact_slice rfl _ packedfp8e4m3_S4096x128_S4096x128_0_0) (fun _ => rfl)) (.inl rfl)) fun _ => k

/-- This device's own block, from its cast of `x` to its own strip. -/
def keepStep (k : CoreProg F) : CoreProg F :=
  .op (.load x8M (Rect.unit (s := S4096x128) (k0_off5 c) S128x128.size (k0_off5_inb i c h)).toLoadRect (View.loadsAt_vmem h_S128x128)) fun v =>
  .op (.load xgM (Rect.unit (s := S128x4096) (k0_off6 c) S128x128.size (k0_off6_inb i c h)).toLoadRect (View.loadsAt_vmem h_S128x128)) fun _ =>
  .op (.store xgM (Rect.unit (s := S128x4096) (k0_off6 c) S128x128.size (k0_off6_inb i c h)) (k0_pay3 v) Finset.univ
    (View.stores_vmem h_S128x128 ((Memref.isWhole_whole cc0_scratch1).storeExact_slice rfl _ (k0_off6_packedfp8e4m3 i c h)) (fun _ => rfl)) (.inl rfl)) fun _ => k

/-- The exchange. -/
def exchange (xW : Memref sig .tc .vmem S4096x128 .fp8e4m3) (k : CoreProg F) : CoreProg F :=
  castStep xW <| row 31 (sigStep c) <| .op (.semWait barS (31#32).toInt) fun _ =>
    row 31 (sendStep i c h) <| keepStep i c h <| row 31 (gotStep i c h) <| row 31 (sentStep i c h) k

end Rows

/-- The product of a point: the gathered rows with a block of `w`, scaled. -/
def product (wW : Memref sig .tc .vmem S4096x1024 .fp8e5m2) (sx sw : Memref sig .tc .smem S1 .f32) (oW : Memref sig .tc .vmem S128x1024 .f32) : CoreProg F :=
  .op (.load xgM (Rect.unit (s := S128x4096) ![0, 0] S128x4096.size inb_S128x4096_S128x4096_0_0).toLoadRect (View.loadsAt_vmem h_S128x4096)) fun v6 =>
  .op (.load wW (Rect.unit (s := S4096x1024) ![0, 0] S4096x1024.size inb_S4096x1024_S4096x1024_0_0).toLoadRect (View.loadsAt_vmem h_S4096x1024)) fun v7 =>
  smemLoadElt sx (Rect.unit (s := S1) ![0] S1.size inb_S1_S1_0) (View.loads_smem_one rfl numel1_S1) (Shape.Idx.first (numel1_S1.symm ▸ Nat.one_pos)) fun v10 =>
  smemLoadElt sw (Rect.unit (s := S1) ![0] S1.size inb_S1_S1_0) (View.loads_smem_one rfl numel1_S1) (Shape.Idx.first (numel1_S1.symm ▸ Nat.one_pos)) fun v11 =>
  .op (.load oW (Rect.unit (s := S128x1024) ![0, 0] S128x1024.size inb_S128x1024_S128x1024_0_0).toLoadRect (View.loadsAt_vmem h_S128x1024)) fun _ =>
  .op (.store oW (Rect.unit (s := S128x1024) ![0, 0] S128x1024.size inb_S128x1024_S128x1024_0_0) (k0_pay1 v6 v7 v10 v11) Finset.univ (View.stores_vmem_bits_univ h_S128x1024 rfl) (.inl rfl)) fun _ =>
  .ret ⟨⟩

section Body

variable (i : grid0.Coords)
  (a1 : Memref sig .tc .vmem S4096x128 .fp8e4m3) (h1 : a1.IsWhole) (a2 : Memref sig .tc .vmem S4096x1024 .fp8e5m2) (h2 : a2.IsWhole)
  (a3 : Memref sig .tc .smem S1 .f32) (h3 : a3.IsWhole) (a4 : Memref sig .tc .smem S1 .f32) (h4 : a4.IsWhole) (a5 : Memref sig .tc .vmem S128x1024 .f32) (h5 : a5.IsWhole)

/-- The body on the kernel's own scratch. -/
abbrev body : CoreProg F :=
  cc0_body i a1 h1 a2 h2 a3 h3 a4 h4 a5 h5 (Memref.whole cc0_scratch0) (Memref.isWhole_whole _) (Memref.whole cc0_scratch1) (Memref.isWhole_whole _) cc0_scratch2 cc0_scratch3

set_option maxRecDepth 65536 in
set_option maxHeartbeats 2000000 in
/-- At the first point the body is the exchange, then the product. -/
theorem body_first (h : k0_cond1 i = 1#1) :
    body (F := F) i a1 h1 a2 h2 a3 h3 a4 h4 a5 h5 = .op .deviceId fun c => exchange i c h a1 (product a2 a3 a4 a5) := by
  unfold body
  rw [cc0_body_eq_skeleton]; unfold cc0_body_skel
  simp only [dif_pos h]
  rfl

/-- At every other point it is the product alone. -/
theorem body_later (h : ¬ k0_cond1 i = 1#1) :
    body (F := F) i a1 h1 a2 h2 a3 h3 a4 h4 a5 h5 = .op .deviceId fun _ => product a2 a3 a4 a5 := by
  unfold body
  rw [cc0_body_eq_skeleton]; unfold cc0_body_skel
  simp only [dif_neg h]
  rfl

end Body

end Cert.Exchange

end
-- ==== Proof.Contents.lean ====
/-
# The blocks of the exchange and what they hold

Device `c` casts its columns of `x` into a scratch, cut into thirty-two blocks of rows, one per device; its gathered
rows are cut into thirty-two strips of columns, one per device. The copy from device `s` to device `c` moves block
`c` of `s`'s cast onto strip `s` of `c`'s gathered rows.
-/
module

public import proofs.«01_k».proof.Proof.Program
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Ring
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- Memory at launch: any contents, every counter at zero. -/
def s₀ : MemSt nD τ sig (Elt F) := ⟨m, fun _ => 0, ρ⟩

/-! ## Peers -/

set_option backward.proofsInPublic true in
/-- The device `r + 1` hops on. -/
def peer (c : Dev nD) (r : Fin 31) : Dev nD := ⟨(c.val + r.val + 1) % 32, Nat.mod_lt _ (by decide)⟩

theorem peer_val (c : Dev nD) (r : Fin 31) : (peer c r).val = (c.val + r.val + 1) % 32 := rfl
theorem peer_ne (c : Dev nD) (r : Fin 31) : peer c r ≠ c := fun h => by
  have h := congrArg Fin.val h; rw [peer_val] at h
  have := c.isLt; have := r.isLt; simp only [nD] at *; omega
theorem peer_inj (c : Dev nD) : Function.Injective (peer c) := fun r s h => by
  have h := congrArg Fin.val h; rw [peer_val, peer_val] at h
  have := c.isLt; have := r.isLt; have := s.isLt; simp only [nD] at *; exact Fin.ext (by omega)
theorem hop_eq (c : Dev nD) (r : Fin 31) : (⟨hopNat c (hopW r), hopNat_lt c r⟩ : Dev nD) = peer c r := Fin.ext (hopNat_eq c r)

/-- The other devices are the peers. -/
theorem erase_eq (c : Dev nD) : Finset.univ.erase c = Finset.univ.map ⟨peer c, peer_inj c⟩ := by
  ext d
  simp only [Finset.mem_erase, Finset.mem_univ, and_true, Finset.mem_map, true_and, Function.Embedding.coeFn_mk]
  constructor
  · intro h
    have hv : d.val ≠ c.val := fun e => h (Fin.ext e)
    have := c.isLt; have := d.isLt; simp only [nD] at *
    refine ⟨⟨(d.val + 31 - c.val) % 32, by omega⟩, Fin.ext ?_⟩
    rw [peer_val]; dsimp only; omega
  · rintro ⟨r, rfl⟩; exact peer_ne c r

theorem sep_others (c : Dev nD) (Φ : Dev nD → sProp 𝕄) :
    bigSep (Finset.univ.erase c) Φ = bigSep Finset.univ fun r => Φ (peer c r) := by
  rw [erase_eq, bigSep_map]; rfl
/-- One resource per device: a device's own, and its peers'. -/
theorem sep_around (c : Dev nD) (Φ : Dev nD → sProp 𝕄) :
    bigSep Finset.univ Φ = iprop(Φ c ∗ bigSep Finset.univ fun r => Φ (peer c r)) := by
  rw [bigSep_univ_split c]
  show iprop(Φ c ∗ bigSep (Finset.univ.erase c) Φ) = _
  rw [sep_others]

/-! ## Blocks and strips -/

theorem row_inb (d : Dev nD) : ∀ a, (![128 * d.val, 0] : Fin 2 → ℕ) a + S128x128.size a ≤ S4096x128.size a :=
  Rect.inb₂ (d := ![4096, 128]) (by have := d.isLt; simp only [nD] at this; show 128 * d.val + 128 ≤ 4096; omega) (Nat.le_refl 128)
theorem col_inb (d : Dev nD) : ∀ a, (![0, 128 * d.val] : Fin 2 → ℕ) a + S128x128.size a ≤ S128x4096.size a :=
  Rect.inb₂ (d := ![128, 4096]) (Nat.le_refl 128) (by have := d.isLt; simp only [nD] at this; show 128 * d.val + 128 ≤ 4096; omega)

/-- Block `d` of a cast: the rows device `d` multiplies. -/
abbrev rowRect (d : Dev nD) : Rect S4096x128 := Rect.unit (s := S4096x128) ![128 * d.val, 0] S128x128.size (row_inb d)
/-- Strip `d` of gathered rows: the columns device `d` holds. -/
abbrev colRect (d : Dev nD) : Rect S128x4096 := Rect.unit (s := S128x4096) ![0, 128 * d.val] S128x128.size (col_inb d)
abbrev rowBlk (d : Dev nD) : Memref sig .tc .vmem S128x128 .fp8e4m3 := x8M.slice (rowRect d) (fun _ => rfl)
abbrev colBlk (d : Dev nD) : Memref sig .tc .vmem S128x128 .fp8e4m3 := xgM.slice (colRect d) (fun _ => rfl)

section Printed
variable (i : grid0.Coords) (c : Dev nD) (h : k0_cond1 i = 1#1)

theorem outBlk_eq (r : Fin 31) : outBlk i c h r = rowBlk (peer c r) := Memref.slice_unit_congr _ (k0_off4_eq c r) _ _ _ _
theorem ownStrip_eq : ownStrip i c h = colBlk c := Memref.slice_unit_congr _ (k0_off3_eq c) _ _ _ _
theorem inStrip_eq (r : Fin 31) : inStrip i c h r = colBlk (peer c r) := Memref.slice_unit_congr _ (k0_off7_eq c r) _ _ _ _
end Printed

/-- Block `d` of `c`'s cast, held at contents `f`; -/
def x8Row (c d : Dev nD) (f : Buf (Elt F) ((c : Thread nD τ).loc cc0_scratch0)) : sProp 𝕄 :=
  (rowBlk d).view.loc (c : Thread nD τ) ↦[(rowBlk d).view.set]{fullShare} f
/-- strip `s` of `c`'s gathered rows, held at contents `f`. -/
def xgCol (c s : Dev nD) (f : Buf (Elt F) ((c : Thread nD τ).loc cc0_scratch1)) : sProp 𝕄 :=
  (colBlk s).view.loc (c : Thread nD τ) ↦[(colBlk s).view.set]{fullShare} f

omit [FloatOps F] in
instance x8Row_storable (c d : Dev nD) (f) : BI.Storable (upEmb : UEmb _ 𝕄) (x8Row (F := F) c d f) := by unfold x8Row; infer_instance
omit [FloatOps F] in
instance xgCol_storable (c s : Dev nD) (f) : BI.Storable (upEmb : UEmb _ 𝕄) (xgCol (F := F) c s f) := by unfold xgCol; infer_instance

theorem row_set (d : Dev nD) : (rowBlk d).view.set = (rowRect d).set := View.set_slice_whole cc0_scratch0 (rowRect d)
theorem col_set (d : Dev nD) : (colBlk d).view.set = (colRect d).set := View.set_slice_whole cc0_scratch1 (colRect d)

omit [FloatOps F] in
/-- A cast held whole is held block by block; -/
theorem x8_blocks (c : Dev nD) (f : Buf (Elt F) ((c : Thread nD τ).loc cc0_scratch0)) :
    (((c : Thread nD τ).loc cc0_scratch0) ↦{fullShare} f : sProp 𝕄) = bigSep Finset.univ fun d => x8Row c d f := by
  rw [Ring.pointsTo_blocks (ℓ := (c : Thread nD τ).loc cc0_scratch0) (B := Dev nD) (fun d => (rowRect d).set)
    (fun b b' h => Ring.lead_disjoint (s := S4096x128) (0 : Fin 2) 128 (fun d : Fin 32 => ![128 * d.val, 0]) S128x128.size row_inb (fun _ => rfl) rfl b b' h)
    (Ring.lead_cover (s := S4096x128) (0 : Fin 2) 128 (fun d : Fin 32 => ![128 * d.val, 0]) S128x128.size row_inb (fun _ => rfl)
      (fun b a ha => match a, ha with | 0, ha => absurd rfl ha | 1, _ => rfl) rfl (fun a ha => match a, ha with | 0, ha => absurd rfl ha | 1, _ => rfl) rfl) f]
  exact bigSep_congr fun d _ => by unfold x8Row; rw [row_set]
omit [FloatOps F] in
/-- gathered rows held whole are held strip by strip. -/
theorem xg_strips (c : Dev nD) (f : Buf (Elt F) ((c : Thread nD τ).loc cc0_scratch1)) :
    (((c : Thread nD τ).loc cc0_scratch1) ↦{fullShare} f : sProp 𝕄) = bigSep Finset.univ fun d => xgCol c d f := by
  rw [Ring.pointsTo_blocks (ℓ := (c : Thread nD τ).loc cc0_scratch1) (B := Dev nD) (fun d => (colRect d).set)
    (fun b b' h => Ring.lead_disjoint (s := S128x4096) (1 : Fin 2) 128 (fun d : Fin 32 => ![0, 128 * d.val]) S128x128.size col_inb (fun _ => rfl) rfl b b' h)
    (Ring.lead_cover (s := S128x4096) (1 : Fin 2) 128 (fun d : Fin 32 => ![0, 128 * d.val]) S128x128.size col_inb (fun _ => rfl)
      (fun b a ha => match a, ha with | 0, _ => rfl | 1, ha => absurd rfl ha) rfl (fun a ha => match a, ha with | 0, _ => rfl | 1, ha => absurd rfl ha) rfl) f]
  exact bigSep_congr fun d _ => by unfold xgCol; rw [col_set]

/-! ## Contents -/

/-- Device `c`'s columns of `x`; -/
def xAt (c : Dev nD) : Vec F S4096x128 .fp8e4m3 := iblk m c 0 t0_0
/-- its cast of them; -/
def x8At (c : Dev nD) : Vec F S4096x128 .fp8e4m3 := k0_pay2 (xAt m c)

set_option backward.proofsInPublic true in
/-- and the rows gathered on it: at column `128 s + j`, row `128 c + i` of `s`'s cast at column `j`. -/
def gath (c : Dev nD) : Vec F S128x4096 .fp8e4m3 := fun i =>
  x8At m ⟨(i 1).val / 128, by have : (i 1).val < 4096 := (i 1).isLt; show _ < 32; omega⟩
    (Shape.pair (d := ![4096, 128])
      ⟨128 * c.val + (i 0).val, by have : (i 0).val < 128 := (i 0).isLt; have : c.val < 32 := c.isLt; show _ < 4096; omega⟩
      ⟨(i 1).val % 128, Nat.mod_lt _ (by decide)⟩)

/-- The gathered rows at strip `s`, from `s`'s cast at block `c`. -/
theorem gath_at (c s : Dev nD) (i : S128x4096.Idx) (y : S4096x128.Idx) (h0 : (y 0).val = 128 * c.val + (i 0).val)
    (h1 : (i 1).val = 128 * s.val + (y 1).val) : gath m c i = x8At m s y := by
  have hy : (y 1).val < 128 := (y 1).isLt
  unfold gath
  rw [show (⟨(i 1).val / 128, by have : (i 1).val < 4096 := (i 1).isLt; show _ < 32; omega⟩ : Dev nD) = s from Fin.ext (by show (i 1).val / 128 = s.val; omega)]
  refine congrArg (x8At m s) ?_
  rw [← Shape.pair_eta (d := ![4096, 128]) y]
  congr 1
  · exact Fin.ext h0.symm
  · exact Fin.ext (by show (i 1).val % 128 = (y 1).val; omega)

/-- What lands from `s` on `c`, over anything, is `c`'s gathered rows on strip `s`. -/
theorem landed (c s : Dev nD) (fd : Buf (Elt F) ((c : Thread nD τ).loc cc0_scratch1)) :
    ∀ j ∈ (colBlk s).view.set, (colBlk s).view.write (Elt F) fd ((rowBlk c).view.read (Elt F) (x8At m s)) Finset.univ j = gath m c j := by
  intro j hj
  obtain ⟨x, -, rfl⟩ := Finset.mem_map.mp hj
  rw [View.write_emb_of_mem _ _ (Finset.mem_univ x)]
  refine (gath_at m c s _ ((rowBlk c).view.emb x) ?_ ?_).symm
  · rw [ValueKit.view_emb_slice_whole_unit_val cc0_scratch0, ValueKit.view_emb_slice_whole_unit_val cc0_scratch1]
    show 128 * c.val + _ = 128 * c.val + (0 + _); omega
  · rw [ValueKit.view_emb_slice_whole_unit_val cc0_scratch0, ValueKit.view_emb_slice_whole_unit_val cc0_scratch1]
    show 128 * s.val + _ = 128 * s.val + (0 + _); omega

end Cert.Exchange

end
-- ==== Proof.Protocol.lean ====
/-
# The protocol of the exchange

Each device has one barrier semaphore, thirty-two send semaphores (one per device it sends to) and thirty-two receive
semaphores (one per device it receives from). One round on each:

* the barrier of `c`: every other device `p` signals one unit, and with it lends `c` strip `c` of `p`'s gathered rows, at
  any contents; `c` waits for all thirty-one.
* the receive semaphore of `c` for `s`: the copy from `s` adds the credit of one block, and hands `c` strip `s` of its
  own gathered rows, holding the gathered contents.
* the send semaphore of `c` for `d`: the same copy adds the same credit, and hands `c` block `d` of its cast back.

The two semaphores a device has for itself are never used. The barrier is waited on while only receive credits are
owed, so barriers lie below receive semaphores in the order of waits and everything else below both.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and cells -/

theorem one_inb (d : Dev nD) : ∀ a, (![d.val] : Fin 1 → ℕ) a + S1.size a ≤ S32.size a := fun a => by
  obtain rfl : a = 0 := Subsingleton.elim _ _
  exact d.isLt

/-- The semaphore copies to `d` are counted on where they leave; -/
def sentAt (d : Dev nD) : DmaSem sig :=
  ((cc0_scratch2.slice (Rect.unit (s := S32) ![d.val] S1.size (one_inb d)) : DmaSems sig S1).squeeze S_ squeezes_S1_S_).sem
/-- the semaphore copies from `s` are counted on where they land. -/
def gotAt (s : Dev nD) : DmaSem sig :=
  ((cc0_scratch3.slice (Rect.unit (s := S32) ![s.val] S1.size (one_inb s)) : DmaSems sig S1).squeeze S_ squeezes_S1_S_).sem

theorem sentAt_val : ∀ d : Dev nD, (sentAt d).val = 7 + d.val := by decide +kernel
theorem gotAt_val : ∀ s : Dev nD, (gotAt s).val = 39 + s.val := by decide +kernel

section Printed
variable (i : grid0.Coords) (c : Dev nD) (h : k0_cond1 i = 1#1)

theorem off1_peer (r : Fin 31) : k0_off1 c (hopW r) = ![(peer c r).val] := k0_off1_eq c r

theorem sentSem_eq (r : Fin 31) : sentSem i c h r = sentAt (peer c r) := by
  unfold sentSem sentAt; rw [SemArray.slice_unit_congr _ (off1_peer c r)]
theorem gotSem_eq (r : Fin 31) : gotSem i c h r = gotAt (peer c r) := by
  unfold gotSem gotAt; rw [SemArray.slice_unit_congr _ (off1_peer c r)]
theorem landSem_eq : landSem i c h = gotAt c := by
  unfold landSem gotAt; rw [SemArray.slice_unit_congr _ (k0_off2_eq c)]
end Printed

/-- What a semaphore is for: none of the exchange's, the barrier, sending to a device, receiving from a device. -/
inductive Role where
  | other | bar | sent (d : Dev nD) | got (s : Dev nD)

set_option backward.proofsInPublic true in
def role : SemLoc sig → Role
  | .reg s => if s = barS then .bar else .other
  | .dma q => if q.val < 7 then .other else if q.val < 39 then .sent ⟨(q.val - 7) % 32, Nat.mod_lt _ (by decide)⟩
      else .got ⟨(q.val - 39) % 32, Nat.mod_lt _ (by decide)⟩

theorem role_bar : role (.reg barS) = .bar := by
  show (if barS = barS then Role.bar else Role.other) = _
  exact if_pos rfl
theorem role_sent (d : Dev nD) : role (.dma (sentAt d)) = .sent d := by
  have h : d.val < 32 := d.isLt
  show (if (sentAt d).val < 7 then Role.other else _) = _
  rw [if_neg (by rw [sentAt_val]; omega), if_pos (by rw [sentAt_val]; omega)]
  exact congrArg Role.sent (Fin.ext (by show ((sentAt d).val - 7) % 32 = d.val; rw [sentAt_val]; omega))
theorem role_got (s : Dev nD) : role (.dma (gotAt s)) = .got s := by
  have h : s.val < 32 := s.isLt
  show (if (gotAt s).val < 7 then Role.other else _) = _
  rw [if_neg (by rw [gotAt_val]; omega), if_neg (by rw [gotAt_val]; omega)]
  exact congrArg Role.got (Fin.ext (by show ((gotAt s).val - 39) % 32 = s.val; rw [gotAt_val]; omega))

abbrev barCell (c : Dev nD) : GSem nD τ sig := ((c : Thread nD τ), .reg barS)
abbrev sentCell (c d : Dev nD) : GSem nD τ sig := ((c : Thread nD τ), .dma (sentAt d))
abbrev gotCell (c s : Dev nD) : GSem nD τ sig := ((c : Thread nD τ), .dma (gotAt s))

/-- The kernel's own semaphores: by the device sent to, and by the device received from; -/
abbrev Own : Type := Dev nD ⊕ Dev nD
abbrev osem : Own → SemLoc sig := Sum.elim (fun d => .dma (sentAt d)) (fun s => .dma (gotAt s))
/-- with the barrier, all the exchange's. -/
abbrev All : Type := Unit ⊕ Own
abbrev csem : All → SemLoc sig := Sum.elim (fun _ => .reg barS) osem
abbrev kcell (ck : Dev nD × All) : GSem nD τ sig := ((ck.1 : Thread nD τ), csem ck.2)

theorem csem_inj : Function.Injective csem := by
  intro a b h
  have h := congrArg role h
  rcases a with a | a | a <;> rcases b with b | b | b <;> simp only [csem, osem, Sum.elim_inl, Sum.elim_inr, role_bar, role_sent, role_got] at h
  all_goals first | rfl | (injection h with h; subst h; rfl) | (injection h)

theorem kcell_inj : Function.Injective kcell := by
  rintro ⟨c, k⟩ ⟨c', k'⟩ h
  have h1 : c = c' := congrArg (fun g : GSem nD τ sig => g.1.1) h
  subst h1
  exact congrArg (Prod.mk c) (csem_inj (congrArg Prod.snd h : csem k = csem k'))

/-! ## The schedule -/

/-- The credit of one block. -/
abbrev N : ℕ := (rowBlk 0).view.dmaCredit
theorem N_pos : 0 < N := View.dmaCredit_pos _ (by decide)
theorem credit_row (d : Dev nD) : (rowBlk d).view.dmaCredit = N := rfl
theorem credit_col (s : Dev nD) : (colBlk s).view.dmaCredit = N := rfl

/-- What a role's duty of device `p` hands device `c`. -/
def pay (c : Dev nD) (p : Dev nD) : Role → sProp 𝕄
  | .other => iprop(emp)
  | .bar => iprop(∃ f, xgCol p c f)
  | .sent d => x8Row c d (x8At m c)
  | .got s => xgCol c s (gath m c)

/-- Who pays a role's round on device `c`. -/
def payers (c : Dev nD) : Role → Finset (Dev nD)
  | .other => ∅
  | .bar => Finset.univ.erase c
  | .sent d => if d = c then ∅ else {0}
  | .got s => if s = c then ∅ else {0}

def units : Role → ℕ
  | .bar => 1
  | _ => N

def Rd : Rounds.Schedule (GSem nD τ sig) (Dev nD) 𝕄 where
  duties g r := if r = 0 ∧ g.1.2 = .tc then payers g.1.1 (role g.2) else ∅
  unitless _ := False
  amount g _ _ := units (role g.2)
  payload g _ p := pay m g.1.1 p (role g.2)
  amount_pos g _ _ _ := by cases role g.2 <;> first | exact Nat.one_pos | exact N_pos

instance Rd_storable (g : GSem nD τ sig) (r : ℕ) (p : Dev nD) : BI.Storable (upEmb : UEmb _ 𝕄) ((Rd (F := F) m).payload g r p) := by
  show BI.Storable upEmb (pay m g.1.1 p (role g.2))
  cases role g.2 <;> (unfold pay; infer_instance)

section Sched
variable (c d : Dev nD)

theorem duties_bar : (Rd (F := F) m).duties (barCell c) 0 = Finset.univ.erase c := by
  dsimp only [Rd]; rw [if_pos ⟨rfl, rfl⟩, role_bar]; rfl
theorem duties_sent (h : d ≠ c) : (Rd (F := F) m).duties (sentCell c d) 0 = {0} := by
  dsimp only [Rd]; rw [if_pos ⟨rfl, rfl⟩, role_sent]; exact if_neg h
theorem duties_got (h : d ≠ c) : (Rd (F := F) m).duties (gotCell c d) 0 = {0} := by
  dsimp only [Rd]; rw [if_pos ⟨rfl, rfl⟩, role_got]; exact if_neg h
theorem duties_sent_self : ∀ r, 0 ≤ r → (Rd (F := F) m).duties (sentCell c c) r = ∅ := fun r _ => by
  dsimp only [Rd]; split
  · rw [role_sent]; exact if_pos rfl
  · rfl
theorem duties_got_self : ∀ r, 0 ≤ r → (Rd (F := F) m).duties (gotCell c c) r = ∅ := fun r _ => by
  dsimp only [Rd]; split
  · rw [role_got]; exact if_pos rfl
  · rfl
theorem duties_later (g : GSem nD τ sig) : ∀ r, 1 ≤ r → (Rd (F := F) m).duties g r = ∅ := fun r hr => by
  dsimp only [Rd]; exact if_neg fun h => by omega

theorem amount_bar (r : ℕ) (p : Dev nD) : (Rd (F := F) m).amount (barCell c) r p = 1 := by dsimp only [Rd]; rw [role_bar]; rfl
theorem amount_sent (r : ℕ) (p : Dev nD) : (Rd (F := F) m).amount (sentCell c d) r p = N := by dsimp only [Rd]; rw [role_sent]; rfl
theorem amount_got (r : ℕ) (p : Dev nD) : (Rd (F := F) m).amount (gotCell c d) r p = N := by dsimp only [Rd]; rw [role_got]; rfl

theorem payload_bar (r : ℕ) (p : Dev nD) : (Rd (F := F) m).payload (barCell c) r p = iprop(∃ f, xgCol p c f) := by dsimp only [Rd]; rw [role_bar]; rfl
theorem payload_sent (r : ℕ) (p : Dev nD) : (Rd (F := F) m).payload (sentCell c d) r p = x8Row c d (x8At m c) := by dsimp only [Rd]; rw [role_sent]; rfl
theorem payload_got (r : ℕ) (p : Dev nD) : (Rd (F := F) m).payload (gotCell c d) r p = xgCol c d (gath m c) := by dsimp only [Rd]; rw [role_got]; rfl

theorem expect_bar : (Rd (F := F) m).expect (barCell c) 0 = 31 := by
  unfold Schedule.expect Schedule.amountOf
  rw [duties_bar, Finset.sum_congr rfl fun p _ => amount_bar m c 0 p, Finset.sum_const, Finset.card_erase_of_mem (Finset.mem_univ _)]
  rfl
theorem expect_sent (h : d ≠ c) : (Rd (F := F) m).expect (sentCell c d) 0 = N := by
  unfold Schedule.expect Schedule.amountOf; rw [duties_sent m c d h, Finset.sum_singleton, amount_sent]
theorem expect_got (h : d ≠ c) : (Rd (F := F) m).expect (gotCell c d) 0 = N := by
  unfold Schedule.expect Schedule.amountOf; rw [duties_got m c d h, Finset.sum_singleton, amount_got]

/-- What the whole round hands over: the barrier's, every peer's strip for `c`; -/
theorem rest_bar : bigSep ((Rd (F := F) m).duties (barCell c) 0 \ ∅) (fun p => (Rd (F := F) m).payload (barCell c) 0 p)
    = bigSep Finset.univ fun r => iprop(∃ f, xgCol (peer c r) c f) := by
  rw [Finset.sdiff_empty, duties_bar, sep_others]
  exact bigSep_congr fun r _ => payload_bar m c 0 _
/-- a send semaphore's, the block back; -/
theorem rest_sent (h : d ≠ c) : bigSep ((Rd (F := F) m).duties (sentCell c d) 0 \ ∅) (fun p => (Rd (F := F) m).payload (sentCell c d) 0 p)
    = x8Row c d (x8At m c) := by
  rw [Finset.sdiff_empty, duties_sent m c d h, bigSep_singleton, payload_sent]
/-- a receive semaphore's, the strip filled. -/
theorem rest_got (h : d ≠ c) : bigSep ((Rd (F := F) m).duties (gotCell c d) 0 \ ∅) (fun p => (Rd (F := F) m).payload (gotCell c d) 0 p)
    = xgCol c d (gath m c) := by
  rw [Finset.sdiff_empty, duties_got m c d h, bigSep_singleton, payload_got]

end Sched

/-! ## What is owed, and the order of waits -/

/-- The barrier units still owed before hop `n`; -/
def barOwed (c : Dev nD) (n : ℕ) : CellTallies nD τ sig Unit := ∑ r : Fin 31 with n ≤ r.val, tallyAt (barCell (peer c r)) () 1
/-- the receive credits still owed before hop `n`; -/
def gotOwed (c : Dev nD) (n : ℕ) : CellTallies nD τ sig Unit := ∑ r : Fin 31 with n ≤ r.val, tallyAt (gotCell (peer c r) c) () N
/-- and all of both, at launch. -/
def O₀ (c : Dev nD) : CellTallies nD τ sig Unit := gotOwed c 0 + barOwed c 0

theorem tail_peel {A : Type} [AddCommMonoid A] (f : Fin 31 → A) (r : Fin 31) :
    (∑ s : Fin 31 with r.val ≤ s.val, f s) = (∑ s : Fin 31 with r.val + 1 ≤ s.val, f s) + f r := by
  rw [add_comm, ← Finset.sum_insert (s := Finset.univ.filter fun s : Fin 31 => r.val + 1 ≤ s.val) (by simp)]
  refine Finset.sum_congr (Finset.ext fun s => ?_) fun _ _ => rfl
  simp only [Finset.mem_filter, Finset.mem_univ, true_and, Finset.mem_insert, Fin.ext_iff]
  omega
theorem tail_end {A : Type} [AddCommMonoid A] (f : Fin 31 → A) : (∑ s : Fin 31 with 31 ≤ s.val, f s) = 0 :=
  Finset.sum_eq_zero fun s hs => absurd (Finset.mem_filter.mp hs).2 (Nat.not_le.mpr s.isLt)

theorem barOwed_peel (c : Dev nD) (r : Fin 31) : barOwed c r.val = barOwed c (r.val + 1) + tallyAt (barCell (peer c r)) () 1 := tail_peel _ r
theorem gotOwed_peel (c : Dev nD) (r : Fin 31) : gotOwed c r.val = gotOwed c (r.val + 1) + tallyAt (gotCell (peer c r) c) () N := tail_peel _ r
theorem barOwed_end (c : Dev nD) : barOwed c 31 = 0 := tail_end _
theorem gotOwed_end (c : Dev nD) : gotOwed c 31 = 0 := tail_end _

/-- A cell with something owed in a sum of tallies is one of the tallies' cells. -/
theorem sum_cell {I : Type} (s : Finset I) (cl : I → GSem nD τ sig) (k : ℕ) {g : GSem nD τ sig} {u : Unit} :
    0 < (∑ j ∈ s, (tallyAt (cl j) () k : CellTallies nD τ sig Unit)) g u → ∃ j, g = cl j := by
  classical
  induction s using Finset.induction_on with
  | empty => intro h; exact absurd h (Nat.lt_irrefl 0)
  | insert j s hj ih =>
    intro h
    rw [Finset.sum_insert hj, Pi.add_apply, Finsupp.add_apply, tallyAt_apply] at h
    by_cases hg : g = cl j ∧ u = ()
    · exact ⟨j, hg.1⟩
    · rw [if_neg hg, Nat.zero_add] at h; exact ih h

def L (g : GSem nD τ sig) : Finset Unit := if g.1.2 = .tc then {()} else ∅
/-- Barriers at 1, receive semaphores at 2, the rest at 0. -/
def lv (g : GSem nD τ sig) (_ : Unit) : ℕ := match role g.2 with
  | .bar => 1
  | .got _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_got (c s : Dev nD) (u : Unit) : lv (gotCell c s) u = 2 := by unfold lv; rw [role_got]

theorem gotOwed_pos {c : Dev nD} {n : ℕ} {g : GSem nD τ sig} {u : Unit} (h : 0 < gotOwed c n g u) : ∃ d, g = gotCell d c :=
  (sum_cell _ (fun r => gotCell (peer c r) c) N h).imp' (peer c) fun _ h => h
theorem O₀_pos {c : Dev nD} {g : GSem nD τ sig} {u : Unit} (h : 0 < O₀ c g u) : ∃ d, g = gotCell d c ∨ g = barCell d := by
  unfold O₀ at h; rw [Pi.add_apply, Finsupp.add_apply] at h
  rcases Nat.eq_zero_or_pos (gotOwed c 0 g u) with h0 | h0
  · rw [h0, Nat.zero_add] at h
    obtain ⟨r, hr⟩ := sum_cell _ (fun r => barCell (peer c r)) 1 h
    exact ⟨_, .inr hr⟩
  · obtain ⟨d, hd⟩ := gotOwed_pos h0; exact ⟨d, .inl hd⟩

/-- A staging semaphore may be waited on whatever the exchange owes; -/
theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, rfl | rfl⟩ := O₀_pos hg <;> exact Finset.mem_singleton_self _)
      (fun p hp => by
        rw [Finset.mem_singleton.mp hp]; show (match role (.dma q) with | .bar => 1 | .got _ => 2 | _ => 0) ≤ 0
        rw [show role (.dma q) = .other from if_pos hq])
      (fun g u hg => by
        obtain ⟨d, rfl | rfl⟩ := O₀_pos hg
        · rw [lv_got]; decide
        · rw [lv_bar]; decide)
  · rw [MayWait_zero]; iintro -; iempintro

/-- and the barrier while receive credits are owed. -/
theorem mayWait_bar (c : Dev nD) (n : ℕ) : (levAts L lv : sProp 𝕄) ⊢ MayWait (c : Thread nD τ) (.reg barS) () (gotOwed c n) :=
  MayOwe.of_cut (L := L) (lev := lv) 1 (fun p hp => by rw [Finset.mem_singleton.mp hp, L_tc]; exact Finset.mem_singleton_self _)
    (fun g u hg => by obtain ⟨d, rfl⟩ := gotOwed_pos hg; exact Finset.mem_singleton_self _)
    (fun p hp => by rw [Finset.mem_singleton.mp hp]; exact (lv_bar c ()).le)
    (fun g u hg => by obtain ⟨d, rfl⟩ := gotOwed_pos hg; rw [lv_got]; decide)

end Cert.Exchange

end
-- ==== Proof.Steps.lean ====
/-
# The rows of steps, run

A row of steps runs by running one step: each takes its own resources, leaves its own, and moves what is owed one hop
on. The five rows follow, each at a symbolic hop of a symbolic device.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- `p` run on device `c`, to end in `Q`. -/
abbrev runs (c : Dev nD) (p : CoreProg F) (Q : PUnit → sProp 𝕄) : sProp 𝕄 :=
  wp frame (wpE (defs₀ (F := F)) 𝒱₀ (c : Thread nD τ) none) Set.univ p Q

/-- A separating product over `n + 1` splits off its first factor. -/
theorem sep_first (n : ℕ) (Φ : Fin (n + 1) → sProp 𝕄) :
    bigSep Finset.univ Φ = iprop(Φ 0 ∗ bigSep Finset.univ fun r : Fin n => Φ r.succ) := by
  rw [Fin.univ_succ, Finset.cons_eq_insert, bigSep_insert (by simp [Fin.succ_ne_zero]), bigSep_map]; rfl

/-- A row runs by its steps: `A r` is what step `r` takes, `B r` what it leaves, `S` what goes along. -/
theorem row_runs (c : Dev nD) (Q : PUnit → sProp 𝕄) (R : sProp 𝕄) [BI.Persistent R] : ∀ (n : ℕ) (P : Fin n → CoreProg F → CoreProg F)
    (A B : Fin n → sProp 𝕄) (S : ℕ → sProp 𝕄)
    (h : ∀ r k, iprop(R ∗ A r ∗ S r.val ∗ ((B r ∗ S (r.val + 1)) -∗ runs c k Q)) ⊢ runs c (P r k) Q) (k : CoreProg F),
    iprop(R ∗ bigSep Finset.univ A ∗ S 0 ∗ ((bigSep Finset.univ B ∗ S n) -∗ runs c k Q)) ⊢ runs c (row n P k) Q := by
  intro n
  induction n with
  | zero =>
    intro P A B S h k
    unfold row
    iintro ⟨-, HA, HS, Hk⟩
    iapply Hk
    isplitl [HA]
    · iapply (show bigSep Finset.univ A ⊢ bigSep Finset.univ B from Entails.of_eq (bigSep_congr fun r _ => r.elim0)); iexact HA
    · iexact HS
  | succ n ih =>
    intro P A B S h k
    rw [sep_first, sep_first]
    unfold row
    iintro ⟨#HR, ⟨HA, HAs⟩, HS, Hk⟩
    have h0 : iprop(R ∗ A 0 ∗ S 0 ∗ ((B 0 ∗ S (0 + 1)) -∗ runs c (row n (fun r => P r.succ) k) Q)) ⊢ runs c (P 0 (row n (fun r => P r.succ) k)) Q := h 0 _
    iapply h0
    isplitr; · iexact HR
    isplitl [HA]; · iexact HA
    isplitl [HS]; · iexact HS
    iintro ⟨HB, HS⟩
    iapply (ih (fun r => P r.succ) (fun r => A r.succ) (fun r => B r.succ) (fun j => S (j + 1)) (fun r k => h r.succ k) k)
    isplitr; · iexact HR
    isplitl [HAs]; · iexact HAs
    isplitl [HS]; · iexact HS
    iintro ⟨HBs, HS⟩
    iapply Hk
    isplitl [HB HBs]
    · isplitl [HB] <;> iassumption
    · iexact HS

/-! ## What every step may use -/

/-- The cells' invariants at the names `K`, and every cell at its first round. -/
def records (K : Dev nD × All → ℕ) : sProp 𝕄 :=
  iprop((bigSep Finset.univ fun ck : Dev nD × All => cellInv ER (Rd m) (K ck) (kcell ck))
    ∗ bigSep Finset.univ fun ck : Dev nD × All => reached ER (kcell ck) 0)

instance records_persistent (K : Dev nD × All → ℕ) : BI.Persistent (records m K) := by unfold records; infer_instance

theorem inv_at (K : Dev nD × All → ℕ) (ck : Dev nD × All) : records m K ⊢ cellInv ER (Rd m) (K ck) (kcell ck) := by
  unfold records
  iintro ⟨H, -⟩
  iapply (show (bigSep Finset.univ fun ck : Dev nD × All => (cellInv ER (Rd m) (K ck) (kcell ck) : sProp 𝕄)) ⊢ cellInv ER (Rd m) (K ck) (kcell ck) from
    bigSep_elim (Finset.mem_univ ck))
  iexact H
theorem reached_at (K : Dev nD × All → ℕ) (ck : Dev nD × All) : records m K ⊢ reached ER (kcell ck) 0 := by
  unfold records
  iintro ⟨-, H⟩
  iapply (show (bigSep Finset.univ fun ck : Dev nD × All => (reached ER (kcell ck) 0 : sProp 𝕄)) ⊢ reached ER (kcell ck) 0 from
    bigSep_elim (Finset.mem_univ ck))
  iexact H

abbrev barK (c : Dev nD) : Dev nD × All := (c, .inl ())
abbrev sentK (c d : Dev nD) : Dev nD × All := (c, .inr (.inl d))
abbrev gotK (c s : Dev nD) : Dev nD × All := (c, .inr (.inr s))

/-- Device `c` owing `O`, whatever it waited on before. -/
def owing (c : Dev nD) (O : CellTallies nD τ sig Unit) : sProp 𝕄 := iprop(∃ W, owes (c : Thread nD τ) O W)

variable (K : Dev nD × All → ℕ) (c : Dev nD)

/-! ## The steps -/

/-- What a signal takes: the duty it pays, and the strip it lends. -/
def sigIn (r : Fin 31) : sProp 𝕄 := iprop(dutyTok ER (barCell (peer c r)) 0 c ∗ ∃ f, xgCol c (peer c r) f)

theorem sig_step (Q : PUnit → sProp 𝕄) (r : Fin 31) (k : CoreProg F) :
    iprop(records m K ∗ sigIn c r ∗ owing c (gotOwed c 0 + barOwed c r.val)
        ∗ ((iprop(emp) ∗ owing c (gotOwed c 0 + barOwed c (r.val + 1))) -∗ runs c k Q))
      ⊢ runs c (sigStep c r k) Q := by
  unfold sigStep sigIn owing
  rw [hop_eq, barOwed_peel c r, ← add_assoc]
  iintro ⟨#HR, ⟨Ht, Hx⟩, ⟨%W, HO⟩, Hk⟩
  iapply (Rounds.wp_signal 𝒱₀ ER (Rd m) (c : Thread nD τ) none (dst := (peer c r : Thread nD τ)) (κ := K (barK (peer c r))) (d := c) (r := 0)
      (by rw [duties_bar]; exact Finset.mem_erase.mpr ⟨(peer_ne c r).symm, Finset.mem_univ _⟩)
      ((amount_bar m (peer c r) 0 c).trans (by decide)) () (gotOwed c 0 + barOwed c (r.val + 1)) rfl) $$ [HO Ht Hx]
  · isplitr; · iapply (inv_at m K (barK (peer c r))); iexact HR
    isplitl [HO]; · iexact HO
    isplitl [Ht]; · iexact Ht
    isplitl [Hx]
    · rw [payload_bar]; iexact Hx
    · iapply (reached_at m K (barK (peer c r))); iexact HR
  iintro HO
  iapply Hk
  isplitr; · iempintro
  iexists W; iexact HO

/-- What a copy takes: its block, the strip it was lent, the duties of both ends. -/
def sendIn (r : Fin 31) : sProp 𝕄 :=
  iprop(x8Row c (peer c r) (x8At m c) ∗ (∃ f, xgCol (peer c r) c f) ∗ dutyTok ER (sentCell c (peer c r)) 0 0 ∗ dutyTok ER (gotCell (peer c r) c) 0 0)
/-- What it leaves: the credit to wait for it. -/
def sendOut (r : Fin 31) : sProp 𝕄 := cred (tallyAt (sentCell c (peer c r)) () N)

theorem wp_copy (p n : Dev nD) (hn : n = p) (hp : p ≠ c) (sS sR : DmaSem sig) (hsS : sS = sentAt p) (hsR : sR = gotAt c)
    (src dst : Memref sig .tc .vmem S128x128 .fp8e4m3) (hs : src = rowBlk p) (hd : dst = colBlk c)
    {hsc : (dst : Memref sig (Dev.tc n : Thread nD τ).2.kind .vmem S128x128 .fp8e4m3).view.ref.isScScratch = false}
    {hsrc : src.view.WordExact} {hdst : dst.view.WordExact}
    {hsem : DmaTarget.Typed .vmem (.dma sR) (.remote (Dev.tc n : Thread nD τ) dst (.dma sS) hsc)}
    {Q : PUnit → sProp 𝕄} {k : PUnit → CoreProg F} (O : CellTallies nD τ sig Unit) (W : Waits sig Unit)
    (f : Buf (Elt F) ((p : Thread nD τ).loc cc0_scratch1)) :
    iprop(cellInv ER (Rd m) (K (sentK c p)) (sentCell c p) ∗ cellInv ER (Rd m) (K (gotK p c)) (gotCell p c)
        ∗ x8Row c p (x8At m c) ∗ xgCol p c f ∗ owes (c : Thread nD τ) (O + tallyAt (gotCell p c) () N) W
        ∗ dutyTok ER (sentCell c p) 0 0 ∗ reached ER (sentCell c p) 0
        ∗ dutyTok ER (gotCell p c) 0 0 ∗ reached ER (gotCell p c) 0)
      ⊢ iprop(((cred (tallyAt (sentCell c p) () N) ∗ owes (c : Thread nD τ) O W) -∗ runs c (k ⟨⟩) Q)
          -∗ runs c (.op (.enqueueDma src (.remote (Dev.tc n : Thread nD τ) dst (.dma sS) hsc) (.dma sR) hsrc hdst hsem) k) Q) := by
  subst hn; subst hsS; subst hsR; subst hs; subst hd
  have h1 : ((rowBlk n).view.loc (c : Thread nD τ) ↦[(rowBlk n).view.set]{fullShare} x8At m c : sProp 𝕄) ⊢ (Rd (F := F) m).payload (sentCell c n) 0 0 := by
    rw [payload_sent]; exact BI.Entails.refl _
  have h2 : ((colBlk c).view.loc (n : Thread nD τ) ↦[(colBlk c).view.set]{fullShare} (colBlk c).view.write (Elt F) f ((rowBlk n).view.read (Elt F) (x8At m c)) Finset.univ : sProp 𝕄)
      ⊢ (Rd (F := F) m).payload (gotCell n c) 0 0 := by
    rw [payload_got]; exact Entails.of_eq (pointsTo_congr (landed m n c f))
  have hA : (colBlk c).view.amount (.dma (gotAt c)) = N := rfl
  unfold x8Row xgCol
  exact Rounds.wp_send_pointsTo 𝒱₀ ER (Rd m) (c : Thread nD τ) none (c' := (n : Thread nD τ)) (src := rowBlk n) (dst := colBlk c) (sS := .dma (sentAt n)) (sem := .dma (gotAt c))
    (fs := x8At m c) (q := fullShare) (κ₁ := K (sentK c n)) (κ₂ := K (gotK n c)) (r₁ := 0) (r₂ := 0) (d₁ := 0) (d₂ := 0) (fd := f)
    (by rw [duties_sent m c n hp]; exact Finset.mem_singleton_self _) (by rw [duties_got m n c hp.symm]; exact Finset.mem_singleton_self _)
    () () N hA (amount_sent m c n 0 0) (amount_got m n c 0 0) O rfl (W := W) h1 h2

theorem send_step (i : grid0.Coords) (h : k0_cond1 i = 1#1) (Q : PUnit → sProp 𝕄) (r : Fin 31) (k : CoreProg F) :
    iprop(records m K ∗ sendIn m c r ∗ owing c (gotOwed c r.val) ∗ ((sendOut c r ∗ owing c (gotOwed c (r.val + 1))) -∗ runs c k Q))
      ⊢ runs c (sendStep i c h r k) Q := by
  unfold sendStep sendIn sendOut owing
  rw [gotOwed_peel c r]
  iintro ⟨#HR, ⟨Hx, ⟨%f, Hg⟩, HtS, HtG⟩, ⟨%W, HO⟩, Hk⟩
  iapply (wp_copy m K c (peer c r) _ (hop_eq c r) (peer_ne c r) _ _ (sentSem_eq i c h r) (landSem_eq i c h) _ _ (outBlk_eq i c h r) (ownStrip_eq i c h)
    (gotOwed c (r.val + 1)) W f) $$ [Hx Hg HtS HtG HO]
  · isplitr; · iapply (inv_at m K (sentK c (peer c r))); iexact HR
    isplitr; · iapply (inv_at m K (gotK (peer c r) c)); iexact HR
    isplitl [Hx]; · iexact Hx
    isplitl [Hg]; · iexact Hg
    isplitl [HO]; · iexact HO
    isplitl [HtS]; · iexact HtS
    isplitr; · iapply (reached_at m K (sentK c (peer c r))); iexact HR
    isplitl [HtG]; · iexact HtG
    iapply (reached_at m K (gotK (peer c r) c)); iexact HR
  iintro ⟨Hc, HO⟩
  iapply Hk
  isplitl [Hc]; · iexact Hc
  iexists W; iexact HO

/-- What a wait for a landing takes and leaves: its credit and position; the strip filled. -/
def gotIn (r : Fin 31) : sProp 𝕄 := iprop(cred (tallyAt (gotCell c (peer c r)) () N) ∗ atPos ER (gotCell c (peer c r)) 0 ∅ 0)
def gotOut (r : Fin 31) : sProp 𝕄 := iprop(xgCol c (peer c r) (gath m c) ∗ atPos ER (gotCell c (peer c r)) 1 ∅ 0)
/-- What a wait for a sent block takes and leaves: its credit and position; the block back. -/
def sentIn (r : Fin 31) : sProp 𝕄 := iprop(cred (tallyAt (sentCell c (peer c r)) () N) ∗ atPos ER (sentCell c (peer c r)) 0 ∅ 0)
def sentOut (r : Fin 31) : sProp 𝕄 := iprop(x8Row c (peer c r) (x8At m c) ∗ atPos ER (sentCell c (peer c r)) 1 ∅ 0)

/-- A wait for one block's credit on one of a device's own cells, nothing owed. -/
theorem wp_block (j : Own) (T : sProp 𝕄) (he : (Rd (F := F) m).expect (kcell (c, .inr j)) 0 = N)
    (hr : bigSep ((Rd (F := F) m).duties (kcell (c, .inr j)) 0 \ ∅) (fun p => (Rd (F := F) m).payload (kcell (c, .inr j)) 0 p) = T)
    (q : DmaSem sig) (hq : osem j = .dma q) (src dst : Memref sig .tc .vmem S128x128 .fp8e4m3) (hN : dst.view.dmaCredit = N)
    {hsrc : src.view.WordExact} {hdst : dst.view.WordExact} {Q : PUnit → sProp 𝕄} {k : CoreProg F} :
    iprop(records m K ∗ (cred (tallyAt (kcell (c, .inr j)) () N) ∗ atPos ER (kcell (c, .inr j)) 0 ∅ 0) ∗ owing c 0
        ∗ (((T ∗ atPos ER (kcell (c, .inr j)) 1 ∅ 0) ∗ owing c 0) -∗ runs c k Q))
      ⊢ runs c (.op (.waitDma2 q src dst hsrc hdst) fun _ => k) Q := by
  have hk : kcell (c, .inr j) = ((c : Thread nD τ), .dma q) := by
    show ((c : Thread nD τ), osem j) = _; rw [hq]
  have hi := inv_at m K (c, .inr j)
  rw [hk] at he hr hi ⊢
  unfold owing
  iintro ⟨#HR, ⟨Hc, Hat⟩, ⟨%W, HO⟩, Hk⟩
  iapply (Rounds.wp_wait_rest_token 𝒱₀ ER (Rd m) (c : Thread nD τ) none (κ := K (c, .inr j))
      (wpE_waitDma2_eq 𝒱₀ (c : Thread nD τ) none Set.univ) (Set.mem_univ _) () (O := 0) (W := W) (R := 0) (m := 0) (T := ∅)
      (by rw [Nat.zero_add, he, hN])) $$ [Hc HO Hat]
  · isplitr; · iapply hi; iexact HR
    isplitl [Hc]; · rw [hN]; iexact Hc
    isplitl [HO]; · iexact HO
    isplitr; · rw [MayWait_zero]; iempintro
    iexact Hat
  iintro ⟨HO, Hat, -, Hp⟩
  iapply Hk
  isplitl [Hp Hat]
  · isplitl [Hp]
    · iapply (Entails.of_eq hr); iexact Hp
    · iexact Hat
  iexists _; iexact HO

theorem got_step (i : grid0.Coords) (h : k0_cond1 i = 1#1) (Q : PUnit → sProp 𝕄) (r : Fin 31) (k : CoreProg F) :
    iprop(records m K ∗ gotIn c r ∗ owing c 0 ∗ ((gotOut m c r ∗ owing c 0) -∗ runs c k Q)) ⊢ runs c (gotStep i c h r k) Q :=
  wp_block m K c (.inr (peer c r)) _ (expect_got m c _ (peer_ne c r)) (rest_got m c _ (peer_ne c r)) _ (congrArg SemLoc.dma (gotSem_eq i c h r).symm) _ _
    (by rw [inStrip_eq])

theorem sent_step (i : grid0.Coords) (h : k0_cond1 i = 1#1) (Q : PUnit → sProp 𝕄) (r : Fin 31) (k : CoreProg F) :
    iprop(records m K ∗ sentIn c r ∗ owing c 0 ∗ ((sentOut m c r ∗ owing c 0) -∗ runs c k Q)) ⊢ runs c (sentStep i c h r k) Q :=
  wp_block m K c (.inl (peer c r)) _ (expect_sent m c _ (peer_ne c r)) (rest_sent m c _ (peer_ne c r)) _ (congrArg SemLoc.dma (sentSem_eq i c h r).symm) _ _
    (by rw [outBlk_eq])

end Cert.Exchange

end
-- ==== Proof.Body.lean ====
/-
# The body, run at a point

At the first point: the cast, the exchange and the product; at every other, the product alone. What is held goes from
the launch's resources to the two scratch buffers filled and every semaphore of the exchange back at zero.
-/
module

public import proofs.«01_k».proof.Proof.Steps
public import Idealize.ShloMosaic.Lib.VecWindow

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × All → ℕ) (c : Dev nD)

/-! ## The local steps -/

/-- The two scratch buffers, whole. -/
abbrev x8Pts (f : Buf (Elt F) ((c : Thread nD τ).loc cc0_scratch0)) : sProp 𝕄 := ((c : Thread nD τ).loc cc0_scratch0) ↦{fullShare} f
abbrev xgPts (f : Buf (Elt F) ((c : Thread nD τ).loc cc0_scratch1)) : sProp 𝕄 := ((c : Thread nD τ).loc cc0_scratch1) ↦{fullShare} f

theorem zero2 : (![0, 0] : Fin 2 → ℕ) = fun _ => 0 := funext fun a => by fin_cases a <;> rfl

/-- The cast fills its scratch. -/
theorem cast_runs (xW : Memref sig .tc .vmem S4096x128 .fp8e4m3) (Q : PUnit → sProp 𝕄) (k : CoreProg F) :
    iprop(owns (c : Thread nD τ) xW fullShare (xAt m c) ∗ (∃ f, x8Pts c f) ∗ ((owns (c : Thread nD τ) xW fullShare (xAt m c) ∗ x8Pts c (x8At m c)) -∗ runs c k Q))
      ⊢ runs c (castStep xW k) Q := by
  unfold castStep owns
  iintro ⟨⟨%g, %hg, Hx⟩, ⟨%f, H8⟩, Hk⟩
  iapply (wp_load 𝒱₀ (c : Thread nD τ) none Set.univ (m := xW) (View.setOn_subset_set _ _)) $$ Hx; iintro Hx
  rw [View.readAt_full (s := S4096x128), hg]
  iapply (wp_load 𝒱₀ (c : Thread nD τ) none Set.univ (m := x8M) (Finset.subset_univ _)) $$ H8; iintro H8
  iapply (wp_store 𝒱₀ (c : Thread nD τ) none Set.univ (m := x8M) (r := Rect.unit (s := S4096x128) ![0, 0] S4096x128.size inb_S4096x128_S4096x128_0_0) (Mk := Finset.univ) (S := Finset.univ) (f := f) (Finset.subset_univ _)) $$ H8; iintro H8
  rw [show View.write (Elt F) ((x8M : Memref sig .tc .vmem S4096x128 .fp8e4m3).access (Rect.unit (s := S4096x128) ![0, 0] S4096x128.size inb_S4096x128_S4096x128_0_0)) f
      (k0_pay2 (xAt m c)) Finset.univ = x8At m c from Memref.write_access_unit_zero_univ (Elt F) cc0_scratch0 zero2 _ f (x8At m c)]
  iapply Hk
  isplitl [Hx]
  · iexists g; isplitr; · ipureintro; exact hg
    iexact Hx
  iexact H8

theorem wp_keep (o5 o6 : Fin 2 → ℕ) (e5 : o5 = ![128 * c.val, 0]) (e6 : o6 = ![0, 128 * c.val])
    (i5 : ∀ a, o5 a + S128x128.size a ≤ S4096x128.size a) (i6 : ∀ a, o6 a + S128x128.size a ≤ S128x4096.size a)
    {l5 : (x8M : Memref sig .tc .vmem S4096x128 .fp8e4m3).view.LoadsAt (Rect.unit (s := S4096x128) o5 S128x128.size i5).toLoadRect}
    {l6 : (xgM : Memref sig .tc .vmem S128x4096 .fp8e4m3).view.LoadsAt (Rect.unit (s := S128x4096) o6 S128x128.size i6).toLoadRect}
    {s6 : ((xgM : Memref sig .tc .vmem S128x4096 .fp8e4m3).access (Rect.unit (s := S128x4096) o6 S128x128.size i6)).Stores Finset.univ}
    {d6 : (Finset.univ : Finset (Rect.unit (s := S128x4096) o6 S128x128.size i6).shape.Idx) = Finset.univ ∨ ∀ a, (Rect.unit (s := S128x4096) o6 S128x128.size i6).stride a = 1}
    (Q : PUnit → sProp 𝕄) (k : CoreProg F) :
    iprop(x8Row c c (x8At m c) ∗ (∃ f, xgCol c c f) ∗ ((x8Row c c (x8At m c) ∗ xgCol c c (gath m c)) -∗ runs c k Q))
      ⊢ runs c (.op (.load x8M (Rect.unit (s := S4096x128) o5 S128x128.size i5).toLoadRect l5) fun v =>
          .op (.load xgM (Rect.unit (s := S128x4096) o6 S128x128.size i6).toLoadRect l6) fun _ =>
          .op (.store xgM (Rect.unit (s := S128x4096) o6 S128x128.size i6) (k0_pay3 v) Finset.univ s6 d6) fun _ => k) Q := by
  subst e5; subst e6
  unfold x8Row xgCol
  iintro ⟨H8, ⟨%f, Hg⟩, Hk⟩
  iapply (wp_load_rect 𝒱₀ (c : Thread nD τ) none Set.univ (m := x8M) (r := rowRect c) (S := (rowBlk c).view.set) (f := x8At m c) subset_rfl) $$ H8; iintro H8
  iapply (wp_load_rect 𝒱₀ (c : Thread nD τ) none Set.univ (m := xgM) (r := colRect c) (S := (colBlk c).view.set) (f := f) subset_rfl) $$ Hg; iintro Hg
  iapply (wp_store 𝒱₀ (c : Thread nD τ) none Set.univ (m := xgM) (r := colRect c) (Mk := Finset.univ) (S := (colBlk c).view.set) (f := f) subset_rfl) $$ Hg; iintro Hg
  iapply Hk
  isplitl [H8]; · iexact H8
  iapply (show ((colBlk c).view.loc (c : Thread nD τ) ↦[(colBlk c).view.set]{fullShare}
      (colBlk c).view.write (Elt F) f (k0_pay3 ((rowBlk c).view.read (Elt F) (x8At m c))) Finset.univ : sProp 𝕄)
      ⊢ ((colBlk c).view.loc (c : Thread nD τ) ↦[(colBlk c).view.set]{fullShare} gath m c) from by
    rw [show k0_pay3 ((rowBlk c).view.read (Elt F) (x8At m c)) = (rowBlk c).view.read (Elt F) (x8At m c) from shapeCast_self _ _]
    exact Entails.of_eq (pointsTo_congr (landed m c c f)))
  iexact Hg

/-- The own block reaches its own strip. -/
theorem keep_runs (i : grid0.Coords) (h : k0_cond1 i = 1#1) (Q : PUnit → sProp 𝕄) (k : CoreProg F) :
    iprop(x8Row c c (x8At m c) ∗ (∃ f, xgCol c c f) ∗ ((x8Row c c (x8At m c) ∗ xgCol c c (gath m c)) -∗ runs c k Q)) ⊢ runs c (keepStep i c h k) Q :=
  wp_keep m c _ _ (k0_off5_eq c) (k0_off6_eq c) _ _ Q k

/-- The one index of a scale. -/
abbrev first1 : S1.Idx := Shape.Idx.first (numel1_S1.symm ▸ Nat.one_pos)

/-- The product, from the gathered rows and a point's windows. -/
theorem product_runs (wW : Memref sig .tc .vmem S4096x1024 .fp8e5m2) (sx sw : Memref sig .tc .smem S1 .f32) (oW : Memref sig .tc .vmem S128x1024 .f32)
    (G : Vec F S128x4096 .fp8e4m3) (Xw : Vec F S4096x1024 .fp8e5m2) (Xs Xv : Vec F S1 .f32) (Q : PUnit → sProp 𝕄) :
    iprop(xgPts c G ∗ owns (c : Thread nD τ) wW fullShare Xw ∗ owns (c : Thread nD τ) sx fullShare Xs ∗ owns (c : Thread nD τ) sw fullShare Xv
        ∗ (∃ X, owns (c : Thread nD τ) oW fullShare X)
        ∗ ((xgPts c G ∗ owns (c : Thread nD τ) wW fullShare Xw ∗ owns (c : Thread nD τ) sx fullShare Xs ∗ owns (c : Thread nD τ) sw fullShare Xv
            ∗ owns (c : Thread nD τ) oW fullShare (k0_pay1 G Xw (Xs first1) (Xv first1))) -∗ Q ⟨⟩))
      ⊢ runs c (product wW sx sw oW) Q := by
  unfold product owns
  iintro ⟨Hg, ⟨%gw, %hw, Hw⟩, ⟨%gs, %hs, Hs⟩, ⟨%gv, %hv, Hv⟩, ⟨%X, %go, %ho, Ho⟩, Hk⟩
  iapply (wp_load 𝒱₀ (c : Thread nD τ) none Set.univ (m := xgM) (Finset.subset_univ _)) $$ Hg; iintro Hg
  rw [show View.readAt (Elt F) (xgM : Memref sig .tc .vmem S128x4096 .fp8e4m3).view (Rect.unit (s := S128x4096) ![0, 0] S128x4096.size inb_S128x4096_S128x4096_0_0).toLoadRect G = G
    from Memref.readAt_unit_zero (Elt F) cc0_scratch1 zero2 _ G]
  iapply (wp_load 𝒱₀ (c : Thread nD τ) none Set.univ (m := wW) (View.setOn_subset_set _ _)) $$ Hw; iintro Hw
  rw [View.readAt_full (s := S4096x1024), hw]
  iapply (wp_smemLoadElt 𝒱₀ (c : Thread nD τ) none Set.univ (m := sx) (r := Rect.unit (s := S1) ![0] S1.size inb_S1_S1_0) (S := sx.view.set) (f := gs) (View.set_slice_subset _ _)) $$ Hs; iintro Hs
  rw [show (sx.access (Rect.unit (s := S1) ![0] S1.size inb_S1_S1_0)).read (Elt F) gs = Xs from (View.readAt_full (s := S1) sx.view gs inb_S1_S1_0).trans hs]
  iapply (wp_smemLoadElt 𝒱₀ (c : Thread nD τ) none Set.univ (m := sw) (r := Rect.unit (s := S1) ![0] S1.size inb_S1_S1_0) (S := sw.view.set) (f := gv) (View.set_slice_subset _ _)) $$ Hv; iintro Hv
  rw [show (sw.access (Rect.unit (s := S1) ![0] S1.size inb_S1_S1_0)).read (Elt F) gv = Xv from (View.readAt_full (s := S1) sw.view gv inb_S1_S1_0).trans hv]
  iapply (wp_load 𝒱₀ (c : Thread nD τ) none Set.univ (m := oW) (View.setOn_subset_set _ _)) $$ Ho; iintro Ho
  iapply (wp_store 𝒱₀ (c : Thread nD τ) none Set.univ (m := oW) (r := Rect.unit (s := S128x1024) ![0, 0] S128x1024.size inb_S128x1024_S128x1024_0_0) (Mk := Finset.univ) (S := oW.view.set) (f := go) (View.set_slice_subset _ _)) $$ Ho; iintro Ho
  rw [wp_ret]; imodintro
  iapply Hk
  isplitl [Hg]; · iexact Hg
  isplitl [Hw]
  · iexists gw; isplitr; · ipureintro; exact hw
    iexact Hw
  isplitl [Hs]
  · iexists gs; isplitr; · ipureintro; exact hs
    iexact Hs
  isplitl [Hv]
  · iexists gv; isplitr; · ipureintro; exact hv
    iexact Hv
  iexists _; isplitr
  · ipureintro; exact View.read_writes_full (s := S128x1024) oW.view go inb_S128x1024_S128x1024_0_0 _ []
  iexact Ho

/-! ## The exchange -/

/-- The ghost state a device runs the exchange with: its positions at its own cells and the duties it pays. -/
def ghost : sProp 𝕄 :=
  iprop(records m K ∗ atPos ER (barCell c) 0 ∅ 0
    ∗ (bigSep Finset.univ fun j : Own => atPos ER (kcell (c, .inr j)) 0 ∅ 0)
    ∗ (bigSep Finset.univ fun r : Fin 31 => dutyTok ER (barCell (peer c r)) 0 c)
    ∗ (bigSep Finset.univ fun r : Fin 31 => dutyTok ER (sentCell c (peer c r)) 0 0)
    ∗ (bigSep Finset.univ fun r : Fin 31 => dutyTok ER (gotCell (peer c r) c) 0 0))
/-- The credits it waits with: the barrier's signals, and its strips' bytes. -/
def credits : sProp 𝕄 :=
  iprop(cred (tallyAt (barCell c) () 31) ∗ (bigSep Finset.univ fun r : Fin 31 => cred (tallyAt (gotCell c (peer c r)) () N)))
/-- What the exchange leaves: its semaphores at zero. -/
def closed : sProp 𝕄 :=
  iprop(semVal (barCell c) 0 ∗ bigSep Finset.univ fun j : Own => semVal (kcell (c, .inr j)) 0)

/-- One resource per own cell: the self cells', and the peers'. -/
theorem sep_own (Φ : Own → sProp 𝕄) :
    bigSep Finset.univ Φ = iprop((Φ (.inl c) ∗ bigSep Finset.univ fun r => Φ (.inl (peer c r))) ∗ (Φ (.inr c) ∗ bigSep Finset.univ fun r => Φ (.inr (peer c r)))) := by
  rw [bigSep_univ_sum Φ, sep_around c (fun d => Φ (.inl d)), sep_around c (fun d => Φ (.inr d))]; rfl

/-- Cells of a device whose later rounds owe nothing all close. -/
theorem close_all (j : Fin 31 → Own) (R : ℕ) (hR : ∀ r s, R ≤ s → (Rd (F := F) m).duties (kcell (c, .inr (j r))) s = ∅) :
    iprop(records m K ∗ bigSep Finset.univ fun r => atPos ER (kcell (c, .inr (j r))) R ∅ 0) ⊢ iprop(|={Set.univ}=> bigSep Finset.univ fun r => semVal (kcell (c, .inr (j r))) 0) := by
  refine ((sep_mono_left (BI.bigSep_of_persistent Finset.univ (records m K))).trans (by
    rw [← bigSep_sep']
    exact bigSep_mono fun r _ => (sep_mono_left (inv_at m K (c, .inr (j r)))).trans
      (Rounds.cell_close ER (Rd m) (Set.mem_univ _) (fun h => h) (hR r)))).trans (bigSep_fupd _ _)

theorem bar_wait (Q : PUnit → sProp 𝕄) (k : CoreProg F) :
    iprop(records m K ∗ levAts L lv ∗ cred (tallyAt (barCell c) () 31) ∗ atPos ER (barCell c) 0 ∅ 0 ∗ owing c (gotOwed c 0)
        ∗ (((bigSep Finset.univ fun r => iprop(∃ f, xgCol (peer c r) c f)) ∗ atPos ER (barCell c) 1 ∅ 0 ∗ owing c (gotOwed c 0)) -∗ runs c k Q))
      ⊢ runs c (.op (.semWait barS (31#32 : BitVec 32).toInt) fun _ => k) Q := by
  unfold owing
  iintro ⟨#HR, #Hlev, Hc, Hat, ⟨%W, HO⟩, Hk⟩
  iapply (Rounds.wp_wait_rest_token 𝒱₀ ER (Rd m) (c : Thread nD τ) none (κ := K (barK c))
      (wpE_semWait_eq 𝒱₀ (c : Thread nD τ) none Set.univ) (Set.mem_univ _) () (O := gotOwed c 0) (W := W) (R := 0) (m := 0) (T := ∅)
      (by rw [expect_bar]; decide)) $$ [Hc HO Hat]
  · isplitr; · iapply (inv_at m K (barK c)); iexact HR
    isplitl [Hc]; · iexact Hc
    isplitl [HO]; · iexact HO
    isplitr; · iapply (mayWait_bar c 0); iexact Hlev
    iexact Hat
  iintro ⟨HO, Hat, -, Hp⟩
  iapply Hk
  isplitl [Hp]; · iapply (Entails.of_eq (rest_bar m c)); iexact Hp
  isplitl [Hat]; · iexact Hat
  iexists _; iexact HO

theorem exchange_runs (i : grid0.Coords) (h : k0_cond1 i = 1#1) (xW : Memref sig .tc .vmem S4096x128 .fp8e4m3) (Q : PUnit → sProp 𝕄) (k : CoreProg F) :
    iprop((ghost m K c ∗ credits c ∗ levAts L lv) ∗ owns (c : Thread nD τ) xW fullShare (xAt m c) ∗ (∃ f, x8Pts c f) ∗ (∃ f, xgPts c f) ∗ owing c (O₀ c)
        ∗ ((closed c ∗ owns (c : Thread nD τ) xW fullShare (xAt m c) ∗ x8Pts c (x8At m c) ∗ xgPts c (gath m c) ∗ owing c 0) -∗ runs c k Q))
      ⊢ runs c (exchange i c h xW k) Q := by
  unfold exchange ghost credits O₀
  iintro ⟨⟨⟨#HR, Hbar, Hown, Htb, Hts, Htg⟩, ⟨Hcb, Hcg⟩, #Hlev⟩, Hx, H8, ⟨%fg, Hg⟩, HO, Hk⟩
  ihave Hown := (Entails.of_eq (sep_own c (fun j : Own => (atPos ER (kcell (c, .inr j)) 0 ∅ 0 : sProp 𝕄)))) $$ Hown
  icases Hown with ⟨⟨Hss, Hsp⟩, ⟨Hgs, Hgp⟩⟩
  iapply (cast_runs m c xW Q)
  isplitl [Hx]; · iexact Hx
  isplitl [H8]; · iexact H8
  iintro ⟨Hx, H8⟩
  ihave H8 := (Entails.of_eq ((x8_blocks c (x8At m c)).trans (sep_around c _))) $$ H8
  ihave Hg := (Entails.of_eq ((xg_strips c fg).trans (sep_around c _))) $$ Hg
  icases H8 with ⟨H8s, H8p⟩
  icases Hg with ⟨Hgss, Hgps⟩
  -- the signals
  iapply (row_runs c Q (records m K) 31 (sigStep c) (sigIn c) (fun _ => iprop(emp)) (fun n => owing c (gotOwed c 0 + barOwed c n)) (sig_step m K c Q))
  isplitr; · iexact HR
  isplitl [Htb Hgps]
  · unfold sigIn
    rw [bigSep_sep']
    isplitl [Htb]; · iexact Htb
    iapply (show (bigSep Finset.univ fun r => (xgCol c (peer c r) fg : sProp 𝕄)) ⊢ bigSep Finset.univ fun r => iprop(∃ f, xgCol c (peer c r) f) from
      bigSep_mono fun r _ => by
        show (xgCol c (peer c r) fg : sProp 𝕄) ⊢ iprop(∃ f, xgCol c (peer c r) f)
        iintro H; iexists fg; iexact H)
    iexact Hgps
  isplitl [HO]; · iexact HO
  iintro ⟨-, HO⟩
  rw [barOwed_end, add_zero]
  -- the barrier
  iapply (bar_wait m K c Q)
  isplitr; · iexact HR
  isplitr; · iexact Hlev
  isplitl [Hcb]; · iexact Hcb
  isplitl [Hbar]; · iexact Hbar
  isplitl [HO]; · iexact HO
  iintro ⟨Hlent, Hbar, HO⟩
  -- the copies
  iapply (row_runs c Q (records m K) 31 (sendStep i c h) (sendIn m c) (sendOut c) (fun n => owing c (gotOwed c n)) (send_step m K c i h Q))
  isplitr; · iexact HR
  isplitl [H8p Hlent Hts Htg]
  · unfold sendIn
    rw [bigSep_sep', bigSep_sep', bigSep_sep']
    isplitl [H8p]; · iexact H8p
    isplitl [Hlent]; · iexact Hlent
    isplitl [Hts]; · iexact Hts
    iexact Htg
  isplitl [HO]; · iexact HO
  iintro ⟨Hcs, HO⟩
  rw [gotOwed_end]
  -- the own block
  iapply (keep_runs m c i h Q)
  isplitl [H8s]; · iexact H8s
  isplitl [Hgss]; · iexists fg; iexact Hgss
  iintro ⟨H8s, Hgss⟩
  -- the strips landed
  iapply (row_runs c Q (records m K) 31 (gotStep i c h) (gotIn c) (gotOut m c) (fun _ => owing c 0) (got_step m K c i h Q))
  isplitr; · iexact HR
  isplitl [Hcg Hgp]
  · unfold gotIn
    rw [bigSep_sep']
    isplitl [Hcg]; · iexact Hcg
    iexact Hgp
  isplitl [HO]; · iexact HO
  iintro ⟨Hgot, HO⟩
  -- the blocks back
  iapply (row_runs c Q (records m K) 31 (sentStep i c h) (sentIn c) (sentOut m c) (fun _ => owing c 0) (sent_step m K c i h Q))
  isplitr; · iexact HR
  isplitl [Hcs Hsp]
  · unfold sentIn
    rw [bigSep_sep']
    isplitl [Hcs]; · iexact Hcs
    iexact Hsp
  isplitl [HO]; · iexact HO
  iintro ⟨Hsent, HO⟩
  ihave Hgot := (show bigSep Finset.univ (gotOut m c)
      ⊢ iprop((bigSep Finset.univ fun r => xgCol c (peer c r) (gath m c)) ∗ bigSep Finset.univ fun r => atPos ER (gotCell c (peer c r)) 1 ∅ 0) from
    Entails.of_eq (bigSep_sep' _ _ _)) $$ Hgot
  ihave Hsent := (show bigSep Finset.univ (sentOut m c)
      ⊢ iprop((bigSep Finset.univ fun r => x8Row c (peer c r) (x8At m c)) ∗ bigSep Finset.univ fun r => atPos ER (sentCell c (peer c r)) 1 ∅ 0) from
    Entails.of_eq (bigSep_sep' _ _ _)) $$ Hsent
  icases Hgot with ⟨Hgps, Hgp⟩
  icases Hsent with ⟨H8p, Hsp⟩
  -- the cells closed
  imod (show iprop(records m K ∗ atPos ER (barCell c) 1 ∅ 0) ⊢ iprop(|={Set.univ}=> semVal (barCell c) 0) from
    (sep_mono_left (inv_at m K (barK c))).trans (Rounds.cell_close ER (Rd m) (Set.mem_univ _) (fun h => h) (duties_later m _))) $$ [Hbar] with Hbar
  · isplitr; · iexact HR
    iexact Hbar
  imod (show iprop(records m K ∗ atPos ER (sentCell c c) 0 ∅ 0) ⊢ iprop(|={Set.univ}=> semVal (sentCell c c) 0) from
    (sep_mono_left (inv_at m K (sentK c c))).trans (Rounds.cell_close ER (Rd m) (Set.mem_univ _) (fun h => h) (duties_sent_self m c))) $$ [Hss] with Hss
  · isplitr; · iexact HR
    iexact Hss
  imod (show iprop(records m K ∗ atPos ER (gotCell c c) 0 ∅ 0) ⊢ iprop(|={Set.univ}=> semVal (gotCell c c) 0) from
    (sep_mono_left (inv_at m K (gotK c c))).trans (Rounds.cell_close ER (Rd m) (Set.mem_univ _) (fun h => h) (duties_got_self m c))) $$ [Hgs] with Hgs
  · isplitr; · iexact HR
    iexact Hgs
  imod (close_all m K c (fun r => .inl (peer c r)) 1 (fun r => duties_later m _)) $$ [Hsp] with Hsp
  · isplitr; · iexact HR
    iexact Hsp
  imod (close_all m K c (fun r => .inr (peer c r)) 1 (fun r => duties_later m _)) $$ [Hgp] with Hgp
  · isplitr; · iexact HR
    iexact Hgp
  iapply Hk
  isplitl [Hbar Hss Hsp Hgs Hgp]
  · unfold closed
    isplitl [Hbar]; · iexact Hbar
    iapply (Entails.of_eq (sep_own c (fun j : Own => (semVal (kcell (c, .inr j)) 0 : sProp 𝕄))).symm)
    isplitl [Hss Hsp]
    · isplitl [Hss]; · iexact Hss
      iexact Hsp
    isplitl [Hgs]; · iexact Hgs
    iexact Hgp
  isplitl [Hx]; · iexact Hx
  isplitl [H8s H8p]
  · iapply (Entails.of_eq ((x8_blocks c (x8At m c)).trans (sep_around c _)).symm)
    isplitl [H8s]; · iexact H8s
    iexact H8p
  isplitl [Hgss Hgps]
  · iapply (Entails.of_eq ((xg_strips c (gath m c)).trans (sep_around c _)).symm)
    isplitl [Hgss]; · iexact Hgss
    iexact Hgps
  iexact HO

end Cert.Exchange

end
-- ==== Proof.Point.lean ====
/-
# The body's obligation

What is held before and after each point, and the body run there: the exchange and the product at the first point, the
product at the others.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A point's block of the result: the gathered rows times the point's columns, scaled. -/
def outAt (c : Dev nD) (t : Fin cfg0.N) : Vec F S128x1024 .f32 :=
  k0_pay1 (gath m c) (iblk m c 1 t : Vec F S4096x1024 .fp8e5m2) ((iblk m c 2 t : Vec F S1 .f32) first1) ((iblk m c 3 t : Vec F S1 .f32) first1)

/-- What the launch deals a device. -/
def start (c : Dev nD) : sProp 𝕄 := iprop((∃ K, ghost m K c) ∗ credits c ∗ levAts L lv)
/-- Before the first point: that, and the scratch buffers at any contents. -/
def before₀ (c : Dev nD) : sProp 𝕄 := iprop(start m c ∗ (∃ f, x8Pts c f) ∗ (∃ f, xgPts c f))
/-- After any: the exchange closed, the scratch buffers filled. -/
def after₀ (c : Dev nD) : sProp 𝕄 := iprop(closed c ∗ x8Pts c (x8At m c) ∗ xgPts c (gath m c))

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := match t with
    | ⟨0, _⟩ => before₀ m c
    | ⟨_ + 1, _⟩ => after₀ m c
  q _ := fullShare
  owed t := match t with
    | ⟨0, _⟩ => O₀ c
    | ⟨_ + 1, _⟩ => 0

/-- Each window fetched holds its block at every point, whatever it held. -/
theorem held_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem held_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem held_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem held_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

/-- What the body is handed at a point besides what is held between points, and what it hands back. -/
def winsIn (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ ∃ X, owns (c : Thread nD τ) (st0_4 t) fullShare X)
def winsOut (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (outAt m c t))

/-- The product at any point. -/
theorem point_product (c : Dev nD) (t : Fin cfg0.N) (Q : PUnit → sProp 𝕄) :
    iprop(xgPts c (gath m c) ∗ winsIn m c t ∗ ((xgPts c (gath m c) ∗ winsOut m c t) -∗ Q ⟨⟩))
      ⊢ runs c (product (st0_1 t) (st0_2 t) (st0_3 t) (st0_4 t)) Q := by
  unfold winsIn winsOut
  iintro ⟨Hg, ⟨Hx, Hw, Hs, Hv, Ho⟩, Hk⟩
  iapply (product_runs c (st0_1 t) (st0_2 t) (st0_3 t) (st0_4 t) (gath m c) (iblk m c 1 t) (iblk m c 2 t) (iblk m c 3 t) Q)
  isplitl [Hg]; · iexact Hg
  isplitl [Hw]; · iexact Hw
  isplitl [Hs]; · iexact Hs
  isplitl [Hv]; · iexact Hv
  isplitl [Ho]; · iexact Ho
  iintro ⟨Hg, Hw, Hs, Hv, Ho⟩
  iapply Hk
  isplitl [Hg]; · iexact Hg
  isplitl [Hx]; · iexact Hx
  isplitl [Hw]; · iexact Hw
  isplitl [Hs]; · iexact Hs
  isplitl [Hv]; · iexact Hv
  iexact Ho

abbrev bodyOf (t : Fin cfg0.N) : CoreProg F :=
  body (grid0.coords t) (st0_0 t) (hstage0_0 _) (st0_1 t) (hstage0_1 _) (st0_2 t) (hstage0_2 _) (st0_3 t) (hstage0_3 _) (st0_4 t) (hstage0_4 _)

/-- The first point: the exchange, then the product. -/
theorem first_point (c : Dev nD) (t : Fin cfg0.N) (ht : t = t0_0) (Q : PUnit → sProp 𝕄) :
    iprop(before₀ m c ∗ owing c (O₀ c) ∗ winsIn m c t ∗ ((after₀ m c ∗ owing c 0 ∗ winsOut m c t) -∗ Q ⟨⟩)) ⊢ runs c (bodyOf t) Q := by
  subst ht
  have h1 : k0_cond1 (grid0.coords t0_0) = 1#1 := by decide
  unfold bodyOf
  rw [body_first _ _ _ _ _ _ _ _ _ _ _ h1]
  unfold runs
  rw [wp_deviceId]
  unfold before₀ start after₀
  iintro ⟨⟨⟨⟨%K, Hgh⟩, Hcr, Hlev⟩, H8, Hg⟩, HO, Hw, Hk⟩
  unfold winsIn
  icases Hw with ⟨Hx, Hw⟩
  iapply (exchange_runs m K c (grid0.coords t0_0) h1 (st0_0 t0_0) Q)
  isplitl [Hgh Hcr Hlev]
  · isplitl [Hgh]; · iexact Hgh
    isplitl [Hcr]; · iexact Hcr
    iexact Hlev
  isplitl [Hx]; · iexact Hx
  isplitl [H8]; · iexact H8
  isplitl [Hg]; · iexact Hg
  isplitl [HO]; · iexact HO
  iintro ⟨Hcl, Hx, H8, Hg, HO⟩
  iapply (point_product m c t0_0 Q)
  isplitl [Hg]; · iexact Hg
  isplitl [Hx Hw]
  · unfold winsIn
    isplitl [Hx]; · iexact Hx
    iexact Hw
  iintro ⟨Hg, Hw⟩
  iapply Hk
  isplitl [Hcl H8 Hg]
  · isplitl [Hcl]; · iexact Hcl
    isplitl [H8]; · iexact H8
    iexact Hg
  isplitl [HO]; · iexact HO
  iexact Hw

/-- Any later point: the product alone. -/
theorem later_point (c : Dev nD) (t : Fin cfg0.N) (h1 : ¬ k0_cond1 (grid0.coords t) = 1#1) (Q : PUnit → sProp 𝕄) :
    iprop(after₀ m c ∗ owing c 0 ∗ winsIn m c t ∗ ((after₀ m c ∗ owing c 0 ∗ winsOut m c t) -∗ Q ⟨⟩)) ⊢ runs c (bodyOf t) Q := by
  unfold bodyOf
  rw [body_later _ _ _ _ _ _ _ _ _ _ _ h1]
  unfold runs
  rw [wp_deviceId]
  unfold after₀
  iintro ⟨⟨Hcl, H8, Hg⟩, HO, Hw, Hk⟩
  iapply (point_product m c t Q)
  isplitl [Hg]; · iexact Hg
  isplitl [Hw]; · iexact Hw
  iintro ⟨Hg, Hw⟩
  iapply Hk
  isplitl [Hcl H8 Hg]
  · isplitl [Hcl]; · iexact Hcl
    isplitl [H8]; · iexact H8
    iexact Hg
  isplitl [HO]; · iexact HO
  iexact Hw

theorem later_cond : ∀ t : Fin cfg0.N, t.val ≠ 0 → ¬ k0_cond1 (grid0.coords t) = 1#1 := by decide

/-- What a point takes and gives, by its number. -/
theorem any_point (c : Dev nD) (t : Fin cfg0.N) (Q : PUnit → sProp 𝕄) :
    iprop((dats m 0 c).Φ t.castSucc ∗ owing c ((dats m 0 c).owed t.castSucc) ∗ winsIn m c t ∗ ((after₀ m c ∗ owing c 0 ∗ winsOut m c t) -∗ Q ⟨⟩))
      ⊢ runs c (bodyOf t) Q := by
  obtain ⟨n, hn⟩ := t
  cases n with
  | zero => exact first_point m c ⟨0, hn⟩ rfl Q
  | succ n => exact later_point m c ⟨n + 1, hn⟩ (later_cond _ (Nat.succ_ne_zero n)) Q

/-- The body meets its obligation at every point. -/
theorem body_obligation (c : Dev nD) : BodyObligation (dats m 0 c) (defs₀ (F := F)) 𝒱₀ () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)))
    ⊢ runs c (bodyOf t) fun _ => iprop(after₀ m c ∗ (dats m 0 c).owesAt () t.succ ∗ winsOut m c t)
  simp only [held_0, held_1, held_2, held_3]
  unfold Dat.owesAt Pipeline.owesWithin
  iintro ⟨HΦ, ⟨%W, %hW, HO⟩, ⟨%d0, H0⟩, ⟨%d1, H1⟩, ⟨%d2, H2⟩, ⟨%d3, H3⟩, ⟨%d4, H4⟩⟩
  iapply (any_point m c t)
  isplitl [HΦ]; · iexact HΦ
  isplitl [HO]; · unfold owing; iexists W; iexact HO
  isplitl [H0 H1 H2 H3 H4]
  · unfold winsIn
    isplitl [H0]; · iexact H0
    isplitl [H1]; · iexact H1
    isplitl [H2]; · iexact H2
    isplitl [H3]; · iexact H3
    iexists _; iexact H4
  unfold owing
  iintro ⟨HΦ, ⟨%W', HO⟩, Hw⟩
  isplitl [HΦ]; · iexact HΦ
  isplitl [HO]
  · iexists W'
    isplitr; · ipureintro; exact fun _ _ => Or.inl trivial
    iexact HO
  iexact Hw

end Cert.Exchange

end
-- ==== Proof.Run.lean ====
/-
# The launch

The ghost state of all the devices' semaphores is minted at once, one token for each pair of devices and each use of a
semaphore; every token goes to the device that pays it. Then every device runs its body at the eight points.
-/
module

public import proofs.«01_k».proof.Proof.Point
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

theorem own_facts : Pipeline.OwnSemFacts cfg0.spec osem where
  isScoped := by decide +kernel
  inj := fun a b h => Sum.inr_injective (csem_inj (a₁ := .inr a) (a₂ := .inr b) h)
  disj := by decide +kernel

def cells : Finset (GSem nD τ sig) := Finset.univ.map ⟨kcell, kcell_inj⟩

/-- A device's duties: at its barrier one of every device's, at each of its own cells one. -/
abbrev Duty : Type := Dev nD ⊕ Own
abbrev dutyOf (cj : Dev nD × Duty) : GSem nD τ sig × ℕ × Dev nD :=
  Sum.elim (fun p => (barCell cj.1, 0, p)) (fun j => (kcell (cj.1, .inr j), 0, 0)) cj.2

theorem dutyOf_inj : Function.Injective dutyOf := by
  rintro ⟨c, j⟩ ⟨c', j'⟩ h
  rcases j with p | j <;> rcases j' with p' | j'
  · have hc : c = c' := congrArg Prod.fst (kcell_inj (a₁ := barK c) (a₂ := barK c') (congrArg Prod.fst h))
    have hp : p = p' := congrArg (fun x : GSem nD τ sig × ℕ × Dev nD => x.2.2) h
    rw [hc, hp]
  · have h1 := kcell_inj (a₁ := barK c) (a₂ := (c', .inr j')) (congrArg Prod.fst h)
    exact absurd (congrArg Prod.snd h1) Sum.inl_ne_inr
  · have h1 := kcell_inj (a₁ := (c, .inr j)) (a₂ := barK c') (congrArg Prod.fst h)
    exact absurd (congrArg Prod.snd h1) Sum.inr_ne_inl
  · have h1 := kcell_inj (a₁ := (c, .inr j)) (a₂ := (c', .inr j')) (congrArg Prod.fst h)
    have hc : c = c' := congrArg Prod.fst h1
    have hj : j = j' := Sum.inr_injective (congrArg Prod.snd h1)
    rw [hc, hj]
def duties : Finset (GSem nD τ sig × ℕ × Dev nD) := Finset.univ.map ⟨dutyOf, dutyOf_inj⟩

def u₀ : UU := (initOf (Pipeline.cells cfgs cellOf_inj) (Pipeline.launchToks cfgs cellOf_inj), initOf cells duties)

/-- The tokens of a device's own semaphores, by pairs; -/
def minted (c : Dev nD) : sProp 𝕄 :=
  iprop((bigSep Finset.univ fun p : Dev nD => dutyTok ER (barCell c) 0 p) ∗ bigSep Finset.univ fun j : Own => dutyTok ER (kcell (c, .inr j)) 0 0)
/-- the tokens of the duties a device pays. -/
def paid (c : Dev nD) : sProp 𝕄 :=
  iprop((bigSep Finset.univ fun r : Fin 31 => dutyTok ER (barCell (peer c r)) 0 c)
    ∗ (bigSep Finset.univ fun r : Fin 31 => dutyTok ER (sentCell c (peer c r)) 0 0)
    ∗ (bigSep Finset.univ fun r : Fin 31 => dutyTok ER (gotCell (peer c r) c) 0 0))
/-- What a device's semaphores start with. -/
def dealt (c : Dev nD) : sProp 𝕄 :=
  iprop((bigSep Finset.univ fun k : All => roundState ER (Rd m) (kcell (c, k)) 0)
    ∗ (bigSep Finset.univ fun k : All => atPos ER (kcell (c, k)) 0 ∅ 0) ∗ (bigSep Finset.univ fun k : All => reached ER (kcell (c, k)) 0) ∗ minted c)

theorem mint : BI.own (ER (initOf cells duties)) ⊢ (|==> bigSep Finset.univ (dealt m) : sProp 𝕄) := by
  have hX (Φ : GSem nD τ sig → sProp 𝕄) : bigSep cells Φ = bigSep Finset.univ fun c : Dev nD => bigSep Finset.univ fun k : All => Φ (kcell (c, k)) := by
    unfold cells; rw [bigSep_map, bigSep_univ_prod]; rfl
  have hT : bigSep duties (fun x => (dutyTok ER x.1 x.2.1 x.2.2 : sProp 𝕄)) = bigSep Finset.univ fun c : Dev nD => minted c := by
    unfold duties; rw [bigSep_map, bigSep_univ_prod]
    exact bigSep_congr fun c _ => by unfold minted; rw [bigSep_univ_sum]; rfl
  iintro H
  imod (Rounds.fund ER (Rd m) cells duties) $$ H with ⟨H1, H2, H3, H4⟩
  imodintro
  ihave H1 := (Entails.of_eq (hX fun g => roundState ER (Rd m) g 0)) $$ H1
  ihave H2 := (Entails.of_eq (hX fun g => reached ER g 0)) $$ H2
  ihave H3 := (Entails.of_eq (hX fun g => atPos ER g 0 ∅ 0)) $$ H3
  ihave H4 := (Entails.of_eq hT) $$ H4
  unfold dealt
  rw [bigSep_sep', bigSep_sep', bigSep_sep']
  isplitl [H1]; · iexact H1
  isplitl [H3]; · iexact H3
  isplitl [H2]; · iexact H2
  iexact H4

/-- One resource per semaphore: the barrier's, and the own ones'. -/
theorem sep_all (Φ : All → sProp 𝕄) : bigSep Finset.univ Φ = iprop(Φ (.inl ()) ∗ bigSep Finset.univ fun j : Own => Φ (.inr j)) := by
  rw [bigSep_univ_sum Φ, Fintype.univ_unit, bigSep_singleton]; rfl

/-! ## Every device's cells set up -/

/-- The counters the launch hands a device are its barrier's and its own semaphores'. -/
theorem counters (c : Dev nD) :
    iprop(Pipeline.ownSems0 (Ix := Unit) (Name := ℕ) (U := UU) (Lvl := ℕ) (Val := Elt F) (τ := τ) osem c ∗ unscopedSems0 c)
      = (bigSep Finset.univ fun k : All => semVal (kcell (c, k)) 0 : sProp 𝕄) := by
  have hb : (unscopedSems0 c : sProp 𝕄) = semVal (barCell c) 0 := by
    unfold unscopedSems0; rw [bigSep_eq_bigSepL_of_eq [SemLoc.reg barS] (by decide +kernel) (by decide)]; rfl
  rw [hb, sep_all]
  exact sep_comm.antisymm sep_comm

theorem set_up (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : All => iprop(∃ κ : ℕ, cellInv ER (Rd m) κ (kcell (c, k))))
          ∗ (bigSep Finset.univ fun k : All => atPos ER (kcell (c, k)) 0 ∅ 0) ∗ (bigSep Finset.univ fun k : All => reached ER (kcell (c, k)) 0) ∗ minted c) := by
  unfold dealt
  iintro ⟨Ho, Hu, Hst, Hrest⟩
  imod (show iprop((bigSep Finset.univ fun k : All => semVal (kcell (c, k)) 0) ∗ bigSep Finset.univ fun k : All => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Ho Hu Hst] with Hinv
  · isplitl [Ho Hu]
    · iapply (Entails.of_eq (counters (F := F) c))
      isplitl [Ho]; · iexact Ho
      iexact Hu
    iexact Hst
  imodintro
  isplitl [Hinv]; · iexact Hinv
  iexact Hrest

/-- A token for each pair, but for the pairs of a device with itself, goes from one end to the other. -/
theorem across (Φ : Dev nD → Dev nD → sProp 𝕄) :
    (bigSep Finset.univ fun c => bigSep Finset.univ fun p => Φ c p) ⊢ bigSep Finset.univ fun c => bigSep Finset.univ fun r => Φ (peer c r) c := by
  rw [bigSep_univ_comm]
  refine bigSep_mono fun c _ => ?_
  rw [sep_around c fun d => Φ d c]
  show iprop(Φ c c ∗ bigSep Finset.univ fun r => Φ (peer c r) c) ⊢ bigSep Finset.univ fun r => Φ (peer c r) c
  iintro ⟨-, H⟩; iexact H
/-- Or stays. -/
theorem along (Φ : Dev nD → Dev nD → sProp 𝕄) :
    (bigSep Finset.univ fun c => bigSep Finset.univ fun p => Φ c p) ⊢ bigSep Finset.univ fun c => bigSep Finset.univ fun r => Φ c (peer c r) := by
  refine bigSep_mono fun c _ => ?_
  rw [sep_around c fun d => Φ c d]
  show iprop(Φ c c ∗ bigSep Finset.univ fun r => Φ c (peer c r)) ⊢ bigSep Finset.univ fun r => Φ c (peer c r)
  iintro ⟨-, H⟩; iexact H

theorem deal : (bigSep Finset.univ fun c : Dev nD => (minted c : sProp 𝕄)) ⊢ bigSep Finset.univ fun c : Dev nD => paid c := by
  have h (c : Dev nD) : (minted c : sProp 𝕄) = iprop((bigSep Finset.univ fun p : Dev nD => dutyTok ER (barCell c) 0 p)
      ∗ (bigSep Finset.univ fun d : Dev nD => dutyTok ER (sentCell c d) 0 0) ∗ (bigSep Finset.univ fun s : Dev nD => dutyTok ER (gotCell c s) 0 0)) := by
    unfold minted; rw [bigSep_univ_sum fun j : Own => (dutyTok ER (kcell (c, .inr j)) 0 0 : sProp 𝕄)]; rfl
  rw [bigSep_congr fun c _ => h c, bigSep_sep', bigSep_sep']
  unfold paid
  rw [bigSep_sep', bigSep_sep']
  iintro ⟨Hb, Hs, Hg⟩
  isplitl [Hb]; · iapply (across fun c p => (dutyTok ER (barCell c) 0 p : sProp 𝕄)); iexact Hb
  isplitl [Hs]; · iapply (along fun c d => (dutyTok ER (sentCell c d) 0 0 : sProp 𝕄)); iexact Hs
  iapply (across fun c s => (dutyTok ER (gotCell c s) 0 0 : sProp 𝕄)); iexact Hg

theorem ghost_of (K : Dev nD × All → ℕ) (c : Dev nD) :
    iprop(records m K ∗ (bigSep Finset.univ fun k : All => atPos ER (kcell (c, k)) 0 ∅ 0) ∗ paid c) ⊢ iprop(∃ K, ghost m K c) := by
  rw [sep_all]
  unfold paid ghost
  iintro ⟨HR, ⟨Hb, Ho⟩, Ht⟩
  iexists K
  isplitl [HR]; · iexact HR
  isplitl [Hb]; · iexact Hb
  isplitl [Ho]; · iexact Ho
  iexact Ht

theorem regroup :
    (bigSep Finset.univ fun c => iprop((bigSep Finset.univ fun k : All => iprop(∃ κ : ℕ, cellInv ER (Rd m) κ (kcell (c, k))))
          ∗ (bigSep Finset.univ fun k : All => atPos ER (kcell (c, k)) 0 ∅ 0) ∗ (bigSep Finset.univ fun k : All => reached ER (kcell (c, k)) 0) ∗ minted c) : sProp 𝕄)
      ⊢ bigSep Finset.univ fun c => iprop(∃ K, ghost m K c) := by
  rw [bigSep_sep', bigSep_sep', bigSep_sep', ← bigSep_univ_prod (fun ck : Dev nD × All => iprop(∃ κ : ℕ, cellInv ER (Rd m) κ (kcell ck))),
    ← bigSep_univ_prod (fun ck : Dev nD × All => (reached ER (kcell ck) 0 : sProp 𝕄))]
  iintro ⟨HI, Hat, HR, Ht⟩
  ihave HK := (BI.bigSep_exists_pi Finset.univ (fun (ck : Dev nD × All) (κ : ℕ) => (cellInv ER (Rd m) κ (kcell ck) : sProp 𝕄))) $$ HI
  icases HK with ⟨%K, HI⟩
  ihave Ht := (deal (F := F)) $$ Ht
  iapply (show iprop(records m K ∗ bigSep Finset.univ fun c => iprop((bigSep Finset.univ fun k : All => atPos ER (kcell (c, k)) 0 ∅ 0) ∗ paid c))
      ⊢ bigSep Finset.univ fun c => iprop(∃ K, ghost m K c) from
    (sep_mono_left (BI.bigSep_of_persistent Finset.univ (records m K))).trans (by rw [← bigSep_sep']; exact bigSep_mono fun c _ => ghost_of m K c))
  isplitl [HI HR]
  · unfold records
    isplitl [HI]; · iexact HI
    iexact HR
  rw [bigSep_sep']
  isplitl [Hat]; · iexact Hat
  iexact Ht

theorem share_out :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ fun c => iprop(∃ K, ghost m K c) :=
  ((bigSep_mono fun c _ => set_up m c).trans (bigSep_fupd _ _)).trans (BI.fupd_mono (regroup m))

/-! ## The credits -/

/-- Summed over all devices, what each owes its peers is what its peers owe each. -/
theorem sum_across {A : Type} [AddCommMonoid A] (f : Dev nD → Dev nD → A) : (∑ d, ∑ r : Fin 31, f d (peer d r)) = ∑ c, ∑ r : Fin 31, f (peer c r) c := by
  have h (g : Dev nD → A) (d : Dev nD) : (∑ r : Fin 31, g (peer d r)) = ∑ p ∈ Finset.univ.erase d, g p := by rw [erase_eq, Finset.sum_map]; rfl
  rw [Finset.sum_congr rfl fun d _ => h (f d) d, Finset.sum_congr rfl fun c _ => h (fun d => f d c) c]
  refine Finset.sum_comm' fun d c => ?_
  simp only [Finset.mem_univ, Finset.mem_erase, true_and, and_true]
  exact ne_comm

theorem own_cell (c : Dev nD) (cl : Fin 31 → SemLoc sig) (k : ℕ) (g : GSem nD τ sig)
    (h : (∑ r : Fin 31, (tallyAt ((c : Thread nD τ), cl r) () k : CellTallies nD τ sig Unit)) g ≠ 0) : g.1 = (c : Thread nD τ) := by
  obtain ⟨u, hu⟩ := DFunLike.ne_iff.mp h
  obtain ⟨r, rfl⟩ := sum_cell _ (fun r => ((c : Thread nD τ), cl r)) k (Nat.pos_of_ne_zero hu)
  rfl

theorem sum_ones (g : GSem nD τ sig) : ∀ n : ℕ, (∑ _r : Fin n, (tallyAt g () 1 : CellTallies nD τ sig Unit)) = tallyAt g () n
  | 0 => by rw [Finset.univ_eq_empty, Finset.sum_empty, tallyAt_zero]
  | n + 1 => by rw [Fin.sum_univ_succ, sum_ones g n, tallyAt_add, Nat.add_comm]

theorem owed_all {A : Type} [AddCommMonoid A] (f : Fin 31 → A) : (∑ r : Fin 31 with 0 ≤ r.val, f r) = ∑ r, f r := by
  rw [Finset.filter_true_of_mem fun r _ => Nat.zero_le _]

theorem credit_bar (c : Dev nD) : (Pipeline.launchCred (fun d => barOwed d 0) c : sProp 𝕄) = cred (tallyAt (barCell c) () 31) := by
  rw [Pipeline.launchCred_of_sum (fun d => barOwed d 0) (fun c => ∑ r : Fin 31, tallyAt (barCell c) () 1) _ (fun d => own_cell d (fun _ => .reg barS) 1), sum_ones]
  unfold barOwed
  rw [Finset.sum_congr rfl fun d _ => owed_all _]
  exact sum_across fun d p => tallyAt (barCell p) () 1
theorem credit_got (c : Dev nD) :
    (Pipeline.launchCred (fun d => gotOwed d 0) c : sProp 𝕄) = bigSep Finset.univ fun r : Fin 31 => cred (tallyAt (gotCell c (peer c r)) () N) := by
  rw [Pipeline.launchCred_of_sum (fun d => gotOwed d 0) (fun c => ∑ r : Fin 31, tallyAt (gotCell c (peer c r)) () N) _
    (fun d => own_cell d (fun r => .dma (gotAt (peer d r))) N), Pipeline.cred_finsetSum]
  unfold gotOwed
  rw [Finset.sum_congr rfl fun d _ => owed_all _]
  exact sum_across fun d p => tallyAt (gotCell p d) () N

theorem credit (c : Dev nD) : (Pipeline.launchCred O₀ c : sProp 𝕄) ⊢ credits c := by
  rw [show O₀ = fun d => gotOwed d 0 + barOwed d 0 from rfl, Pipeline.launchCred_add, credit_bar, credit_got]
  unfold credits
  exact sep_comm

/-! ## The run -/

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m K c)
      ⊢ |={Set.univ}=> iprop(start m c ∗ emp) := by
  iintro ⟨-, Hlev, Hcr, -, HG⟩
  imodintro
  isplitl
  · unfold start
    isplitl [HG]; · iexact HG
    isplitl [Hcr]; · iapply (credit (F := F) c); iexact Hcr
    iexact Hlev
  iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ before₀ m c
  rw [scopedRest0_eq]
  unfold before₀
  iintro ⟨Hs, -, Hb⟩
  isplitl [Hs]; · iexact Hs
  iexact Hb

theorem leave (c : Dev nD) :
    (dats m 0 c).Φ (Fin.last cfg0.N) ⊢ iprop(unscopedSems0 c ∗ Pipeline.ownSems0 osem c ∗ Pipeline.scopedRest cfg0.spec c) := by
  show after₀ m c ⊢ _
  have hb : (unscopedSems0 c : sProp 𝕄) = semVal (barCell c) 0 := by
    unfold unscopedSems0; rw [bigSep_eq_bigSepL_of_eq [SemLoc.reg barS] (by decide +kernel) (by decide)]; rfl
  rw [scopedRest0_eq, hb]
  unfold after₀ closed Pipeline.ownSems0
  iintro ⟨⟨Hb, Ho⟩, H8, Hg⟩
  isplitl [Hb]; · iexact Hb
  isplitl [Ho]; · iexact Ho
  isplitl [H8]
  · iexists (x8At m c); iexact H8
  iexists (gath m c); iexact Hg

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr rfl)

/-- A window's array at the end. -/
def final (c : Dev nD) (w : Fin cfg0.W) : Buf (Elt F) ((cfg0.win w).arr.view.loc (c : Thread nD τ)) := (dats m 0 c).arrAt w cfg0.N

set_option maxRecDepth 8000 in
/-- For any float values, from any memory with every counter at zero: the 32 devices' kernels finish under every fair
    interleaving, each window's array ends as the points leave it, and every counter is at zero. -/
theorem run_main : θ_run defs (onTc (τ := τ) (main (F := F))) (s₀ m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => (body_obligation m c).loose) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m)
    (G := dealt m) (G' := fun c => iprop(∃ K, ghost m K c)) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := share_out m)
    (hA := fun _ _ => rfl) (hpf := fun _ k => k.elim0)
    (X := start m) (Y := fun c => unscopedSems0 c) (Z := fun _ => iprop(emp))
    (hX := start_of m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A window fetched leaves its array as it was. -/
theorem final_0 (c : Dev nD) : final m c 0 = m ((c : Thread nD τ).loc main_arg0) := (dats m 0 c).arrAt_in 0 rfl _
theorem final_1 (c : Dev nD) : final m c 1 = m ((c : Thread nD τ).loc main_arg1) := (dats m 0 c).arrAt_in 1 rfl _
theorem final_2 (c : Dev nD) : final m c 2 = m ((c : Thread nD τ).loc main_arg2) := (dats m 0 c).arrAt_in 2 rfl _
theorem final_3 (c : Dev nD) : final m c 3 = m ((c : Thread nD τ).loc main_arg3) := (dats m 0 c).arrAt_in 3 rfl _

end Cert.Exchange

end
-- ==== Proof.Equation.lean ====
/-
# The value

Over extended reals: every device's result is its block of rows of the product of the whole matrices, scaled.
-/
module

public import proofs.«01_k».proof.Defs
public import proofs.«01_k».proof.Proof.Run
public import proofs.«01_k».proof.Proof.Gen.Kernel
public import proofs.«01_k».proof.Proof.Gen.ReferenceIdeal.Value
public import Idealize.ShloMosaic.Lib.MatmulPlain
public import Idealize.ShloMosaic.Lib.ValueIdx
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx
open Idealize.SL.Sem
open scoped BigOperators

/-- The one index of a scale. -/
theorem one_index (i : S1.Idx) : i = first1 := by
  funext a
  match a with
  | ⟨0, _⟩ => exact Fin.ext (by have h : (i 0).val < 1 := (i 0).isLt; have h' : (first1 0).val < 1 := (first1 0).isLt; show (i 0).val = (first1 0).val; omega)

/-- A point's block of the result at row `r`, column `q`: the row times the column, times both scales. -/
theorem block_entry (A : Vec Ideal S128x4096 .fp8e4m3) (B : Vec Ideal S4096x1024 .fp8e5m2) (a b : Ideal .f32) (r : Fin 128) (q : Fin 1024) :
    Cert.KernelIdeal.Gen.k0_pay1 A B a b (ix2 r q) = (∑ k : Fin 4096, A (ix2 r k) * B (ix2 k q)) * (a * b) := by
  show FloatOps.matmul (DotDims.plain 128 4096 1024) none A (shapeCast S4096x1024 B shapeCasts_S4096x1024_S4096x1024) (constant S128x1024 .f32 0x00000000#32) (ix2 r q) * (a * b) = _
  rw [shapeCast_self, Ideal.matmul_plain_apply, constant_apply, Ideal.ofBits_zero_f32, zero_add]

/-- The reference's result at row `r`, column `q`: the same of the whole matrices. -/
theorem whole_entry (X : Vec Ideal Cert.ReferenceIdeal.S4096x4096 .fp8e4m3) (W : Vec Ideal Cert.ReferenceIdeal.S4096x8192 .fp8e5m2)
    (a b : Vec Ideal S1 .f32) (r : Fin 4096) (q : Fin 8192) :
    Cert.ReferenceIdeal.Gen.k0_pay1 X W a b (ix2 r q) = (∑ k : Fin 4096, X (ix2 r k) * W (ix2 k q)) * (a first1 * b first1) := by
  show FloatOps.matmul (F := Ideal) (φ₁ := .f32) (φ₂ := .f32) (DotDims.plain 4096 4096 8192) none X W (constant Cert.ReferenceIdeal.S4096x8192 .f32 0x00000000#32) (ix2 r q) * (a _ * b _) = _
  rw [Ideal.matmul_plain_apply, constant_apply, Ideal.ofBits_zero_f32, zero_add]
  congr 2
  · exact congrArg a (one_index _)
  · exact congrArg b (one_index _)

variable (m : (ℓ : Loc nD τ sig) → Buf (Elt Ideal) ℓ)

/-- Where the windows of the columns and of the result stand at each point: at the point's own block of columns. -/
theorem columns_at : ∀ t : Fin cfg0.N, win0_1.index t (0 : Fin 2) = 0 ∧ win0_1.index t (1 : Fin 2) = t.val :=
  (by decide +kernel : ∀ t : Fin grid0.N, _)
theorem result_at : ∀ t : Fin cfg0.N, win0_4.index t (0 : Fin 2) = 0 ∧ win0_4.index t (1 : Fin 2) = t.val :=
  (by decide +kernel : ∀ t : Fin grid0.N, _)
/-- Those of `x` and of the scales hold their whole arrays. -/
theorem shard_at : ∀ t : Fin cfg0.N, win0_0.index t (0 : Fin 2) = 0 ∧ win0_0.index t (1 : Fin 2) = 0 :=
  (by decide +kernel : ∀ t : Fin grid0.N, _)

/-- A column of the result within the array, from its place in a point's block. -/
def column (t : Fin cfg0.N) (q : Fin 1024) : Fin 8192 :=
  ⟨1024 * t.val + q.val, by have h : t.val < 8 := N_0 ▸ t.isLt; have := q.isLt; omega⟩

/-- An entry of the point's columns is an entry of the whole array's. -/
theorem columns_entry (c : Dev nD) (t : Fin cfg0.N) (k : Fin 4096) (q : Fin 1024) :
    (iblk m c 1 t : Vec Ideal S4096x1024 .fp8e5m2) (ix2 k q) = m ((c : Thread nD τ).loc main_arg1) (ix2 k (column t q)) := by
  obtain ⟨e0, e1⟩ := columns_at t
  show m ((c : Thread nD τ).loc main_arg1) (((cfg0.win 1).blk t).view.emb (ix2 k q)) = _
  refine congrArg _ ?_
  funext a; apply Fin.ext
  match a with
  | ⟨0, _⟩ => show win0_1.index t (0 : Fin 2) * 4096 + 1 * k.val = k.val; omega
  | ⟨1, _⟩ => show win0_1.index t (1 : Fin 2) * 1024 + 1 * q.val = 1024 * t.val + q.val; omega

/-- A scale read at a point is the argument's one entry. -/
theorem scale_entry (c : Dev nD) (t : Fin cfg0.N) :
    (iblk m c 2 t : Vec Ideal S1 .f32) first1 = m ((c : Thread nD τ).loc main_arg2) first1
    ∧ (iblk m c 3 t : Vec Ideal S1 .f32) first1 = m ((c : Thread nD τ).loc main_arg3) first1 :=
  ⟨congrArg (m ((c : Thread nD τ).loc main_arg2)) (one_index _), congrArg (m ((c : Thread nD τ).loc main_arg3)) (one_index _)⟩

/-- What a device sends is its columns of `x` as launched. -/
theorem sent_eq (c : Dev nD) : x8At m c = m ((c : Thread nD τ).loc main_arg0) := by
  obtain ⟨e0, e1⟩ := shard_at t0_0
  show shapeCast S4096x128 (shapeCast S4096x128 (xAt m c) shapeCasts_S4096x128_S4096x128) shapeCasts_S4096x128_S4096x128 = _
  rw [shapeCast_self, shapeCast_self]
  funext j
  show m ((c : Thread nD τ).loc main_arg0) (((cfg0.win 0).blk t0_0).view.emb j) = _
  refine congrArg _ ?_
  funext a; apply Fin.ext
  match a with
  | ⟨0, _⟩ => show win0_0.index t0_0 (0 : Fin 2) * 4096 + 1 * (j 0).val = (j 0).val; omega
  | ⟨1, _⟩ => show win0_0.index t0_0 (1 : Fin 2) * 128 + 1 * (j 1).val = (j 1).val; omega

/-- The row of the whole product that a device's row `r` is. -/
def resultRow (c : Dev nD) (r : Fin 128) : Fin 4096 :=
  ⟨128 * c.val + r.val, by have h : c.val < 32 := c.isLt; have := r.isLt; omega⟩

/-- The exchange turns blocks of columns into blocks of rows: when every device holds its block of columns of `X`, a
    device gathers its block of rows of `X`. -/
theorem gathered_entry (X : Vec Ideal Cert.ReferenceIdeal.S4096x4096 .fp8e4m3)
    (hX : ∀ s : Dev nD, m ((s : Thread nD τ).loc main_arg0) = Layout.block ⟨2, ![4096, 128]⟩ ⟨2, ![4096, 4096]⟩ 1 32 s X)
    (c : Dev nD) (r : Fin 128) (k : Fin 4096) : gath m c (ix2 r k) = X (ix2 (resultRow c r) k) := by
  have hk := k.isLt
  rw [gath_at m c (⟨k.val / 128, by show _ < 32; omega⟩ : Dev nD) (ix2 r k) (ix2 (resultRow c r) ⟨k.val % 128, Nat.mod_lt _ (by decide)⟩) rfl
    (by show k.val = 128 * (k.val / 128) + k.val % 128; omega), sent_eq, hX, Layout.block_apply]
  refine congrArg X ?_
  funext a; apply Fin.ext
  match a with
  | ⟨0, _⟩ => exact (Layout.idx_cols_val _ _ _).1
  | ⟨1, _⟩ => exact (Layout.idx_cols_val _ _ _).2.trans (by show k.val / 128 * 128 + k.val % 128 = k.val; omega)

/-- Every entry of a result is in the block of the point of its column. -/
theorem result_covered (i : S128x8192.Idx) : ∃ t : Fin cfg0.N, (cfg0.win 4).flush t = true ∧ i ∈ ((cfg0.win 4).blk t).view.set := by
  have h1 : (i 1).val < 8192 := (i 1).isLt
  let t : Fin cfg0.N := ⟨(i 1).val / 1024, by show _ < grid0.N; rw [N_0]; omega⟩
  obtain ⟨e0, e1⟩ := result_at t
  refine ⟨t, flush0_4 t, ?_⟩
  have h := ((cfg0.win 4).blk t).view.emb_mem_set (ix2 (i 0) ⟨(i 1).val % 1024, Nat.mod_lt _ (by decide)⟩ : S128x1024.Idx)
  have e : ((cfg0.win 4).blk t).view.emb (ix2 (i 0) ⟨(i 1).val % 1024, Nat.mod_lt _ (by decide)⟩ : S128x1024.Idx) = i := by
    funext a; apply Fin.ext
    match a with
    | ⟨0, _⟩ => show win0_4.index t (0 : Fin 2) * 128 + 1 * (i 0).val = (i 0).val; omega
    | ⟨1, _⟩ => show win0_4.index t (1 : Fin 2) * 1024 + 1 * ((i 1).val % 1024) = (i 1).val; have : t.val = (i 1).val / 1024 := rfl; omega
  rwa [e] at h

/-- A device's result is its block of rows of the reference's. -/
theorem result_eq (X : Vec Ideal Cert.ReferenceIdeal.S4096x4096 .fp8e4m3) (W : Vec Ideal Cert.ReferenceIdeal.S4096x8192 .fp8e5m2)
    (a b : Vec Ideal S1 .f32)
    (hX : ∀ s : Dev nD, m ((s : Thread nD τ).loc main_arg0) = Layout.block ⟨2, ![4096, 128]⟩ ⟨2, ![4096, 4096]⟩ 1 32 s X)
    (c : Dev nD) (hW : m ((c : Thread nD τ).loc main_arg1) = W) (ha : m ((c : Thread nD τ).loc main_arg2) = a)
    (hb : m ((c : Thread nD τ).loc main_arg3) = b) :
    final m c 4 = Layout.block ⟨2, ![128, 8192]⟩ ⟨2, ![4096, 8192]⟩ 0 32 c (Cert.ReferenceIdeal.Gen.k0_pay1 X W a b) := by
  refine (dats m 0 c).arrAt_eq_of_cover 4 _ (fun t _ => ?_) result_covered
  obtain ⟨e0, e1⟩ := result_at t
  funext j
  obtain ⟨r, q, rfl⟩ : ∃ (r : Fin 128) (q : Fin 1024), j = ix2 r q := ⟨_, _, eq_ix2 j⟩
  show outAt m c t (ix2 r q) = (Layout.block ⟨2, ![128, 8192]⟩ ⟨2, ![4096, 8192]⟩ 0 32 c (Cert.ReferenceIdeal.Gen.k0_pay1 X W a b) : S128x8192.Idx → _) (((cfg0.win 4).blk t).view.emb (ix2 r q))
  have e : ((cfg0.win 4).blk t).view.emb (ix2 r q : S128x1024.Idx) = (ix2 r (column t q) : S128x8192.Idx) := by
    funext a; apply Fin.ext
    match a with
    | ⟨0, _⟩ => show win0_4.index t (0 : Fin 2) * 128 + 1 * r.val = r.val; omega
    | ⟨1, _⟩ => show win0_4.index t (1 : Fin 2) * 1024 + 1 * q.val = 1024 * t.val + q.val; omega
  have l : ∀ h : Layout.Tiles ⟨2, ![128, 8192]⟩ ⟨2, ![4096, 8192]⟩ 0 32, h.idx c (ix2 r (column t q)) = ix2 (resultRow c r) (column t q) := by
    intro h
    funext a; apply Fin.ext
    match a with
    | ⟨0, _⟩ => exact (Layout.idx_rows_val h _ _).1.trans (by show c.val * 128 + r.val = 128 * c.val + r.val; omega)
    | ⟨1, _⟩ => exact (Layout.idx_rows_val h _ _).2
  rw [e, Layout.block_apply, l, whole_entry]
  unfold outAt
  rw [block_entry, (scale_entry m c t).1, (scale_entry m c t).2, ha, hb]
  refine congrArg (· * _) (Finset.sum_congr rfl fun k _ => ?_)
  rw [gathered_entry m X hX, columns_entry, hW]

/-! ## The claims -/

/-- Over any float values the run leaves every argument as it was, and every counter at zero. -/
theorem kept {F : FTy → Type} [FloatOps F] (m : (ℓ : Loc nD τ sig) → Buf (Elt F) ℓ) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c 0).trans (final_0 m c), (h.1 c 1).trans (final_1 m c),
    (h.1 c 2).trans (final_2 m c), (h.1 c 3).trans (final_3 m c)⟩, h.2⟩) (run_main m ρ)

theorem frame_KernelIdeal : Cert.quiescent_KernelIdeal := fun m ρ _ => kept m ρ
/-- The kernel as printed has the same body table as its reading, at the machine's own floats; -/
theorem bodies_eq : Cert.Kernel.defs₀ (F := Bits) = defs₀ (F := Bits) := by
  unfold Cert.Kernel.defs₀ defs₀
  refine congrArg Defs.onTc ?_
  funext l a
  match l, a with
  | 0, (t, s) => exact rfl
theorem tables_eq : Cert.Kernel.defs (F := Bits) = defs (F := Bits) := congrArg (Pipeline.defs pcfgs) bodies_eq
/-- so what is shown of the one holds of the other. -/
theorem frame_Kernel : Cert.quiescent_Kernel := fun m ρ _ => by
  rw [tables_eq]
  exact kept (F := Bits) m ρ

/-- Over extended reals, from memories that hold the same matrices — the kernel's `x` by blocks of columns, one per
    device — the kernel leaves on every device its block of rows of what the reference leaves. -/
theorem algebraic : Cert.algebraic_KernelIdeal_ReferenceIdeal := fun m ρ m' ρ' _ h =>
  ⟨_, (θ_run defs _ _).mono (fun r k c => ⟨(k.1 c 4).trans (result_eq m _ _ _ _ (fun s => (h s).1) c (h c).2.1 (h c).2.2.1 (h c).2.2.2),
      (k.1 c 0).trans (final_0 m c), (k.1 c 1).trans (final_1 m c), (k.1 c 2).trans (final_2 m c), (k.1 c 3).trans (final_3 m c)⟩) (run_main m ρ),
    (θ_run Cert.ReferenceIdeal.defs _ _).mono (fun r k => k 0) (Cert.ReferenceIdeal.Value.run m' ρ')⟩

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The frames of the kernel, of its reading over reals and of the reference; that the reading keeps the kernel; and that
    the kernel computes the reference's function. -/
theorem claim : Cert.Claim := ⟨Cert.Kernel.Gen.facts, Cert.KernelIdeal.Gen.facts, Cert.ReferenceIdeal.Gen.facts,
  Cert.Exchange.frame_Kernel, Cert.Exchange.frame_KernelIdeal, fun m ρ _ => Cert.ReferenceIdeal.Gen.frame m ρ, trivial, Cert.Exchange.algebraic⟩

end Cert.Proof

end
